-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ragged [hPre_ragged : Cert.Pre_ragged.Facts] (m : (ℓ : Loc Cert.KernelIdeal.nD Cert.KernelIdeal.τ Cert.KernelIdeal.sig) → Buf (Elt Ideal) ℓ) : Prop :=
  ∀ c : Dev Cert.KernelIdeal.nD,
    (Cert.Pre_ragged.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ragged [hPre_ragged : Cert.Pre_ragged.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ragged.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_ragged [hKernelIdeal : Cert.KernelIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ragged m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_ragged [hReferenceIdeal : Cert.ReferenceIdeal.Facts] [hPre_ragged : Cert.Pre_ragged.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ragged m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_ragged [hKernelIdeal : Cert.KernelIdeal.Facts] [hReferenceIdeal : Cert.ReferenceIdeal.Facts] [hPre_ragged : Cert.Pre_ragged.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ragged m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ragged : Cert.Pre_ragged.Facts),
    quiescent_Kernel (hKernel := hKernel)
    ∧ quiescent_KernelIdeal (hKernelIdeal := hKernelIdeal)
    ∧ quiescent_KernelIdeal_pre_ragged (hKernelIdeal := hKernelIdeal) (hPre_ragged := hPre_ragged)
    ∧ quiescent_ReferenceIdeal (hReferenceIdeal := hReferenceIdeal)
    ∧ quiescent_ReferenceIdeal_pre_ragged (hReferenceIdeal := hReferenceIdeal) (hPre_ragged := hPre_ragged)
    ∧ preserves_Kernel_KernelIdeal
    ∧ algebraic_KernelIdeal_ReferenceIdeal_pre_ragged (hKernelIdeal := hKernelIdeal) (hReferenceIdeal := hReferenceIdeal) (hPre_ragged := hPre_ragged)
-- ==== Pre_ragged.lean ====
abbrev S32768x256 : Shape := ⟨2, ![32768, 256]⟩
abbrev S256x256 : Shape := ⟨2, ![256, 256]⟩
abbrev S256 : Shape := ⟨1, ![256]⟩
abbrev S256x10 : Shape := ⟨2, ![256, 10]⟩
abbrev S10 : Shape := ⟨1, ![10]⟩
abbrev S32768 : Shape := ⟨1, ![32768]⟩
abbrev S_ : Shape := ⟨0, ![]⟩
abbrev S32767 : Shape := ⟨1, ![32767]⟩
abbrev S28672 : Shape := ⟨1, ![28672]⟩

class Facts : Prop where
  bcast_S_S32768 : S_.BroadcastsInDim S32768 (![] : Fin 0 → Fin S32768.rank)
  reducesTo_S32768_S_d0 : S32768.ReducesTo [0] S_
  h_S_ : 0 < S_.numel
  slices_S32768_S32767_1 : S32768.Slices ![1] S32767
  slices_S32768_S32767_0 : S32768.Slices ![0] S32767
  reducesTo_S32767_S_d0 : S32767.ReducesTo [0] S_
  slices_S32768_S28672_4096 : S32768.Slices ![4096] S28672
  slices_S32768_S28672_0 : S32768.Slices ![0] S28672
  reducesTo_S28672_S_d0 : S28672.ReducesTo [0] S_

variable [Facts]

def fn {F : FTy → Type} [FloatOps F] (main_arg0 : FVec F S32768x256 .f32) (main_arg1 : FVec F S256x256 .f32) (main_arg2 : FVec F S256 .f32) (main_arg3 : FVec F S256x10 .f32) (main_arg4 : FVec F S10 .f32) (main_arg5 : FVec F S256x256 .f32) (main_arg6 : FVec F S256 .f32) (main_arg7 : FVec F S256x256 .f32) (main_arg8 : FVec F S256 .f32) (main_arg9 : IVec S32768 32) : IVec S_ 1 :=
  let main_c : IVec S_ 32 := constantI S_ 32 0#32
  let main_v0 : IVec S32768 32 := broadcastInDim S32768 ![] bcast_S_S32768 main_c
  let main_v1 : IVec S32768 1 := cmpi .sge main_arg9 main_v0
  let main_c_0 : IVec S_ 32 := constantI S_ 32 16#32
  let main_v2 : IVec S32768 32 := broadcastInDim S32768 ![] bcast_S_S32768 main_c_0
  let main_v3 : IVec S32768 1 := cmpi .slt main_arg9 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  let main_v6 : IVec S32767 32 := (extractStridedSlice S32767 ![1] · slices_S32768_S32767_1) main_arg9
  let main_v7 : IVec S32767 32 := (extractStridedSlice S32767 ![0] · slices_S32768_S32767_0) main_arg9
  let main_v8 : IVec S32767 1 := cmpi .sge main_v6 main_v7
  let main_c_2 : IVec S_ 1 := constantI S_ 1 1#1
  let main_v9 : IVec S_ 1 := (fun x v => Host.reduce IntOp.andi x v reducesTo_S32767_S_d0 h_S_) main_v8 main_c_2
  let main_v10 : IVec S28672 32 := (extractStridedSlice S28672 ![4096] · slices_S32768_S28672_4096) main_arg9
  let main_v11 : IVec S28672 32 := (extractStridedSlice S28672 ![0] · slices_S32768_S28672_0) main_arg9
  let main_v12 : IVec S28672 1 := cmpi .ne main_v10 main_v11
  let main_c_3 : IVec S_ 1 := constantI S_ 1 1#1
  let main_v13 : IVec S_ 1 := (fun x v => Host.reduce IntOp.andi x v reducesTo_S28672_S_d0 h_S_) main_v12 main_c_3
  let main_v14 : IVec S_ 1 := andi main_v5 main_v9
  let main_v15 : IVec S_ 1 := andi main_v14 main_v13
  main_v15
-- ==== Kernel.lean ====
abbrev S32768x256 : Shape := ⟨2, ![32768, 256]⟩
abbrev S256x256 : Shape := ⟨2, ![256, 256]⟩
abbrev S256 : Shape := ⟨1, ![256]⟩
abbrev S256x10 : Shape := ⟨2, ![256, 10]⟩
abbrev S10 : Shape := ⟨1, ![10]⟩
abbrev S32768 : Shape := ⟨1, ![32768]⟩
abbrev S32768x1 : Shape := ⟨2, ![32768, 1]⟩
abbrev S1x256 : Shape := ⟨2, ![1, 256]⟩
abbrev S1x10 : Shape := ⟨2, ![1, 10]⟩
abbrev S160x256 : Shape := ⟨2, ![160, 256]⟩
abbrev S16x256 : Shape := ⟨2, ![16, 256]⟩
abbrev S16x10x256 : Shape := ⟨3, ![16, 10, 256]⟩
abbrev S8192x256 : Shape := ⟨2, ![8192, 256]⟩
abbrev S8192x1 : Shape := ⟨2, ![8192, 1]⟩
abbrev S176x256 : Shape := ⟨2, ![176, 256]⟩
abbrev S1x176 : Shape := ⟨2, ![1, 176]⟩
abbrev S8192x10 : Shape := ⟨2, ![8192, 10]⟩
abbrev S8192x176 : Shape := ⟨2, ![8192, 176]⟩
abbrev S10x176 : Shape := ⟨2, ![10, 176]⟩
abbrev S176 : Shape := ⟨1, ![176]⟩
abbrev S1x160 : Shape := ⟨2, ![1, 160]⟩
abbrev S160x1 : Shape := ⟨2, ![160, 1]⟩
abbrev S1x16 : Shape := ⟨2, ![1, 16]⟩
abbrev S16x1 : Shape := ⟨2, ![16, 1]⟩

abbrev nBuf : Space → Nat
  | .hbm => 19
  | .vmem => 17
  | .smem => 0
  | _ => 0

abbrev bufTy : (tb : Table) → Fin (tcTables nBuf tb) → BufTy
  | .hbm, ⟨0, _⟩ => ⟨S32768x256, .f32⟩
  | .hbm, ⟨1, _⟩ => ⟨S256x256, .f32⟩
  | .hbm, ⟨2, _⟩ => ⟨S256, .f32⟩
  | .hbm, ⟨3, _⟩ => ⟨S256x10, .f32⟩
  | .hbm, ⟨4, _⟩ => ⟨S10, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S32768, .i32⟩
  | .hbm, ⟨10, _⟩ => ⟨S32768x1, .i32⟩
  | .hbm, ⟨11, _⟩ => ⟨S1x256, .f32⟩
  | .hbm, ⟨12, _⟩ => ⟨S1x10, .f32⟩
  | .hbm, ⟨13, _⟩ => ⟨S1x256, .f32⟩
  | .hbm, ⟨14, _⟩ => ⟨S1x256, .f32⟩
  | .hbm, ⟨15, _⟩ => ⟨S160x256, .f32⟩
  | .hbm, ⟨16, _⟩ => ⟨S16x256, .f32⟩
  | .hbm, ⟨17, _⟩ => ⟨S16x256, .f32⟩
  | .hbm, ⟨18, _⟩ => ⟨S16x10x256, .f32⟩
  | .local _ .vmem, ⟨0, _⟩ => ⟨S8192x256, .f32⟩
  | .local _ .vmem, ⟨1, _⟩ => ⟨S8192x256, .f32⟩
  | .local _ .vmem, ⟨2, _⟩ => ⟨S8192x1, .i32⟩
  | .local _ .vmem, ⟨3, _⟩ => ⟨S8192x1, .i32⟩
  | .local _ .vmem, ⟨4, _⟩ => ⟨S256x256, .f32⟩
  | .local _ .vmem, ⟨5, _⟩ => ⟨S1x256, .f32⟩
  | .local _ .vmem, ⟨6, _⟩ => ⟨S256x10, .f32⟩
  | .local _ .vmem, ⟨7, _⟩ => ⟨S1x10, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S160x256, .f32⟩
  | .local _ .vmem, ⟨13, _⟩ => ⟨S16x256, .f32⟩
  | .local _ .vmem, ⟨14, _⟩ => ⟨S16x256, .f32⟩
  | .local _ .vmem, ⟨15, _⟩ => ⟨S176x256, .f32⟩
  | .local _ .vmem, ⟨16, _⟩ => ⟨S1x176, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5_0 : Ref sig .tc := ⟨.hbm, 15, rfl⟩
abbrev main_v0_1 : Ref sig .tc := ⟨.hbm, 16, rfl⟩
abbrev main_v0_2 : Ref sig .tc := ⟨.hbm, 17, rfl⟩
abbrev main_v0_0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v101 : BitVec 1 := Scalar.cmpi .eq arg0 c3_i32
  let v102 : BitVec 32 := Scalar.extui v101
  let c0_i32_40 : BitVec 32 := 0#32
  let v103 : BitVec 1 := Scalar.cmpi .ne v102 c0_i32_40
  v103

def cc0_transform_0 (i : grid0.Coords) : Fin 2 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S160x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S32768x256 : Shape := ⟨2, ![32768, 256]⟩
abbrev S256x256 : Shape := ⟨2, ![256, 256]⟩
abbrev S256 : Shape := ⟨1, ![256]⟩
abbrev S256x10 : Shape := ⟨2, ![256, 10]⟩
abbrev S10 : Shape := ⟨1, ![10]⟩
abbrev S32768 : Shape := ⟨1, ![32768]⟩
abbrev S1x256 : Shape := ⟨2, ![1, 256]⟩
abbrev S32768x10 : Shape := ⟨2, ![32768, 10]⟩
abbrev S1x10 : Shape := ⟨2, ![1, 10]⟩
abbrev S_ : Shape := ⟨0, ![]⟩
abbrev S32768x1x256 : Shape := ⟨3, ![32768, 1, 256]⟩
abbrev S32768x10x1 : Shape := ⟨3, ![32768, 10, 1]⟩
abbrev S32768x10x256 : Shape := ⟨3, ![32768, 10, 256]⟩
abbrev S16x10x256 : Shape := ⟨3, ![16, 10, 256]⟩
abbrev S32768x1 : Shape := ⟨2, ![32768, 1]⟩
abbrev S16x10 : Shape := ⟨2, ![16, 10]⟩
abbrev S16x10x1 : Shape := ⟨3, ![16, 10, 1]⟩
abbrev S16 : Shape := ⟨1, ![16]⟩
abbrev S1 : Shape := ⟨1, ![1]⟩
abbrev S15 : Shape := ⟨1, ![15]⟩
abbrev S16x4096x256 : Shape := ⟨3, ![16, 4096, 256]⟩
abbrev S32768x2 : Shape := ⟨2, ![32768, 2]⟩
abbrev S16x4096 : Shape := ⟨2, ![16, 4096]⟩
abbrev S16x4096x1 : Shape := ⟨3, ![16, 4096, 1]⟩
abbrev S16x256 : Shape := ⟨2, ![16, 256]⟩
abbrev S16x1 : Shape := ⟨2, ![16, 1]⟩

abbrev nBuf : Space → Nat
  | .hbm => 143
  | .vmem => 0
  | .smem => 0
  | _ => 0

abbrev hbmTy0_0 (i : Nat) : BufTy := match i % 128 with
  | 0 => ⟨S32768x256, .f32⟩
  | 1 => ⟨S256x256, .f32⟩
  | 2 => ⟨S256, .f32⟩
  | 3 => ⟨S256x10, .f32⟩
  | 4 => ⟨S10, .f32⟩
  | 5 => ⟨S256x256, .f32⟩
  | 6 => ⟨S256, .f32⟩
  | 7 => ⟨S256x256, .f32⟩
  | 8 => ⟨S256, .f32⟩
  | 9 => ⟨S32768, .i32⟩
  | 10 => ⟨S32768x256, .f32⟩
  | 11 => ⟨S1x256, .f32⟩
  | 12 => ⟨S32768x256, .f32⟩
  | 13 => ⟨S32768x256, .f32⟩
  | 14 => ⟨S32768x10, .f32⟩
  | 15 => ⟨S1x10, .f32⟩
  | 16 => ⟨S32768x10, .f32⟩
  | 17 => ⟨S32768x10, .f32⟩
  | 18 => ⟨S32768x10, .f32⟩
  | 19 => ⟨S32768x10, .f32⟩
  | 20 => ⟨S_, .f32⟩
  | 21 => ⟨S32768x10, .f32⟩
  | 22 => ⟨S32768x10, .f32⟩
  | 23 => ⟨S_, .f32⟩
  | 24 => ⟨S32768x10, .f32⟩
  | 25 => ⟨S32768x10, .f32⟩
  | 26 => ⟨S32768x1x256, .f32⟩
  | 27 => ⟨S32768x10x1, .f32⟩
  | 28 => ⟨S32768x10x256, .f32⟩
  | 29 => ⟨S32768x10x256, .f32⟩
  | 30 => ⟨S32768x10x256, .f32⟩
  | 31 => ⟨S_, .f32⟩
  | 32 => ⟨S16x10x256, .f32⟩
  | 33 => ⟨S32768x1, .i32⟩
  | 34 => ⟨S16x10x256, .f32⟩
  | 35 => ⟨S_, .f32⟩
  | 36 => ⟨S16x10, .f32⟩
  | 37 => ⟨S32768x1, .i32⟩
  | 38 => ⟨S16x10, .f32⟩
  | 39 => ⟨S_, .f32⟩
  | 40 => ⟨S16x10, .f32⟩
  | 41 => ⟨S16x10, .f32⟩
  | 42 => ⟨S16x10x1, .f32⟩
  | 43 => ⟨S16x10x256, .f32⟩
  | 44 => ⟨S16x10x256, .f32⟩
  | 45 => ⟨S_, .i32⟩
  | 46 => ⟨S16, .i32⟩
  | 47 => ⟨S_, .i32⟩
  | 48 => ⟨S_, .i32⟩
  | 49 => ⟨S32768, .i32⟩
  | 50 => ⟨S32768, .i32⟩
  | 51 => ⟨S_, .i32⟩
  | 52 => ⟨S32768, .i32⟩
  | 53 => ⟨S32768, .i1⟩
  | 54 => ⟨S_, .i32⟩
  | 55 => ⟨S32768, .i32⟩
  | 56 => ⟨S32768, .i32⟩
  | 57 => ⟨S32768, .i32⟩
  | 58 => ⟨S32768x1, .i32⟩
  | 59 => ⟨S_, .i32⟩
  | 60 => ⟨S32768, .i32⟩
  | 61 => ⟨S16, .i32⟩
  | 62 => ⟨S_, .i32⟩
  | 63 => ⟨S1, .i32⟩
  | 64 => ⟨S_, .i32⟩
  | 65 => ⟨S_, .i32⟩
  | 66 => ⟨S16, .i32⟩
  | 67 => ⟨S15, .i32⟩
  | 68 => ⟨S16, .i32⟩
  | 69 => ⟨S32768, .i32⟩
  | 70 => ⟨S_, .i32⟩
  | 71 => ⟨S32768, .i32⟩
  | 72 => ⟨S32768, .i1⟩
  | 73 => ⟨S_, .i32⟩
  | 74 => ⟨S32768, .i32⟩
  | 75 => ⟨S32768, .i32⟩
  | 76 => ⟨S32768, .i32⟩
  | 77 => ⟨S32768x1, .i32⟩
  | 78 => ⟨S32768, .i32⟩
  | 79 => ⟨S32768, .i32⟩
  | 80 => ⟨S_, .f32⟩
  | 81 => ⟨S16x4096x256, .f32⟩
  | 82 => ⟨S_, .i32⟩
  | 83 => ⟨S32768, .i32⟩
  | 84 => ⟨S32768, .i1⟩
  | 85 => ⟨S_, .i32⟩
  | 86 => ⟨S32768, .i32⟩
  | 87 => ⟨S32768, .i32⟩
  | 88 => ⟨S32768, .i32⟩
  | 89 => ⟨S_, .i32⟩
  | 90 => ⟨S32768, .i32⟩
  | 91 => ⟨S32768, .i1⟩
  | 92 => ⟨S_, .i32⟩
  | 93 => ⟨S32768, .i32⟩
  | 94 => ⟨S32768, .i32⟩
  | 95 => ⟨S32768, .i32⟩
  | 96 => ⟨S32768x1, .i32⟩
  | 97 => ⟨S32768x1, .i32⟩
  | 98 => ⟨S32768x2, .i32⟩
  | 99 => ⟨S16x4096x256, .f32⟩
  | 100 => ⟨S_, .f32⟩
  | 101 => ⟨S16x4096, .f32⟩
  | 102 => ⟨S_, .i32⟩
  | 103 => ⟨S32768, .i32⟩
  | 104 => ⟨S32768, .i1⟩
  | 105 => ⟨S_, .i32⟩
  | 106 => ⟨S32768, .i32⟩
  | 107 => ⟨S32768, .i32⟩
  | 108 => ⟨S32768, .i32⟩
  | 109 => ⟨S_, .i32⟩
  | 110 => ⟨S32768, .i32⟩
  | 111 => ⟨S32768, .i1⟩
  | 112 => ⟨S_, .i32⟩
  | 113 => ⟨S32768, .i32⟩
  | 114 => ⟨S32768, .i32⟩
  | 115 => ⟨S32768, .i32⟩
  | 116 => ⟨S32768x1, .i32⟩
  | 117 => ⟨S32768x1, .i32⟩
  | 118 => ⟨S32768x2, .i32⟩
  | 119 => ⟨S_, .f32⟩
  | 120 => ⟨S32768, .f32⟩
  | 121 => ⟨S16x4096, .f32⟩
  | 122 => ⟨S16x4096x1, .f32⟩
  | 123 => ⟨S16x4096x256, .f32⟩
  | 124 => ⟨S16x4096x256, .f32⟩
  | 125 => ⟨S_, .f32⟩
  | 126 => ⟨S16x256, .f32⟩
  | 127 => ⟨S_, .f32⟩
  | _ => ⟨S32768x256, .f32⟩

abbrev hbmTy0_1 (i : Nat) : BufTy := match i % 128 with
  | 0 => ⟨S16, .f32⟩
  | 1 => ⟨S16x1, .f32⟩
  | 2 => ⟨S_, .f32⟩
  | 3 => ⟨S16x1, .f32⟩
  | 4 => ⟨S16x1, .f32⟩
  | 5 => ⟨S16x256, .f32⟩
  | 6 => ⟨S16x256, .f32⟩
  | 7 => ⟨S16x256, .f32⟩
  | 8 => ⟨S1x256, .f32⟩
  | 9 => ⟨S16x256, .f32⟩
  | 10 => ⟨S16x256, .f32⟩
  | 11 => ⟨S16x256, .f32⟩
  | 12 => ⟨S1x256, .f32⟩
  | 13 => ⟨S16x256, .f32⟩
  | 14 => ⟨S16x256, .f32⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_v30 : Ref sig .tc := ⟨.hbm, 46, rfl⟩
abbrev main_c_4 : Ref sig .tc := ⟨.hbm, 47, rfl⟩
abbrev main_call0_v0 : Ref sig .tc := ⟨.hbm, 48, rfl⟩
abbrev main_call0_v1 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_call1_call0_c : Ref sig .tc := ⟨.hbm, 64, rfl⟩
abbrev main_call1_call0_v0 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_c_12 : Ref sig .tc := ⟨.hbm, 82, rfl⟩
abbrev main_v54 : Ref sig .tc := ⟨.hbm, 83, rfl⟩
abbrev main_v55 : Ref sig .tc := ⟨.hbm, 84, rfl⟩
abbrev main_c_13 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_c_15 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_16 : Ref sig .tc := ⟨.hbm, 100, rfl⟩
abbrev main_v68 : Ref sig .tc := ⟨.hbm, 101, rfl⟩
abbrev main_c_17 : Ref sig .tc := ⟨.hbm, 102, rfl⟩
abbrev main_v69 : Ref sig .tc := ⟨.hbm, 103, rfl⟩
abbrev main_v70 : Ref sig .tc := ⟨.hbm, 104, rfl⟩
abbrev main_c_18 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_19 : Ref sig .tc := ⟨.hbm, 109, rfl⟩
abbrev main_v74 : Ref sig .tc := ⟨.hbm, 110, rfl⟩
abbrev main_v75 : Ref sig .tc := ⟨.hbm, 111, rfl⟩
abbrev main_c_20 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_21 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_22 : Ref sig .tc := ⟨.hbm, 125, rfl⟩
abbrev main_v87 : Ref sig .tc := ⟨.hbm, 126, rfl⟩
abbrev main_cst_23 : Ref sig .tc := ⟨.hbm, 127, rfl⟩
abbrev main_v88 : Ref sig .tc := ⟨.hbm, 128, rfl⟩
abbrev main_v89 : Ref sig .tc := ⟨.hbm, 129, rfl⟩
abbrev main_cst_24 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩

abbrev nD : Nat := 1
abbrev τ : Topo := Topo.v7x

variable {F : FTy → Type} [FloatOps F]
-- ==== Proof.Payload.lean ====
module

public import proofs.«01_k».proof.Proof.Gen.KernelIdeal.Skeleton
public import Idealize.ShloMosaic.Lib.Pointwise
public import Idealize.ShloMosaic.Lib.WordCmp

@[expose] public section

set_option maxRecDepth 16384

noncomputable section

/-! What the kernel's body computes, entry by entry. -/

namespace Cert.Keys

open Idealize.ShloMosaic Idealize.ShloMosaic.TcCoe Idealize.SL.Sem
open Cert.KernelIdeal Cert.KernelIdeal.Gen

/-- The column number of every entry of a tile's mask. -/
abbrev cols : IVec S8192x176 32 := iota .tc S8192x176 32 [1] iota_S8192x176_d1_w32

/-- The segment word of a column, as the kernel computes it. -/
def colSeg (w : BitVec 32) : BitVec 32 :=
  Scalar.select (IntOp.cmpi .slt w 160#32)
    (Scalar.select
      (IntOp.andi
        (IntOp.cmpi .ne
          (IntOp.subi (BitVec.setWidth 32 (IntOp.cmpi .sgt w 0#32)) (BitVec.setWidth 32 (IntOp.cmpi .slt w 0#32)))
          (Scalar.subi 1#32 (Scalar.extui (Scalar.cmpi .slt 10#32 0#32))))
        (IntOp.cmpi .ne (IntOp.remsi .vector w 10#32) 0#32))
      (IntOp.subi (IntOp.divsi .vector w 10#32) 1#32)
      (IntOp.divsi .vector w 10#32))
    (IntOp.subi w 160#32)

/-- The divisor of the head number, as the kernel computes it. -/
def ten : BitVec 32 := Scalar.select (Scalar.cmpi .eq 10#32 0#32) 1#32 10#32

/-- Whether a column is of head `h`, as the kernel computes it. -/
def colHead (h w : BitVec 32) : BitVec 1 :=
  IntOp.andi
    (IntOp.cmpi .eq
      (Scalar.select
        (IntOp.andi
          (IntOp.xori (IntOp.cmpi .slt (IntOp.remsi .vector w ten) 0#32) (Scalar.cmpi .slt ten 0#32))
          (IntOp.cmpi .ne (IntOp.remsi .vector w ten) 0#32))
        (IntOp.addi (IntOp.remsi .vector w ten) ten) (IntOp.remsi .vector w ten)) h)
    (IntOp.cmpi .slt w 160#32)

/-- The column of a segment and a head. -/
def keyCol (b : Fin 16) (k : Fin 10) : Fin 176 := ⟨10 * b.val + k.val, by omega⟩

/-- The column of a segment's token count. -/
def poolCol (b : Fin 16) : Fin 176 := ⟨160 + b.val, by omega⟩

/-- A head's column has its segment. -/
theorem colSeg_key : ∀ (b : Fin 16) (k : Fin 10), colSeg (BitVec.ofNat 32 (keyCol b k).val) = BitVec.ofNat 32 b.val := by decide +kernel

/-- A count's column has its segment. -/
theorem colSeg_pool : ∀ b : Fin 16, colSeg (BitVec.ofNat 32 (poolCol b).val) = BitVec.ofNat 32 b.val := by decide +kernel

/-- A head's column is of its head. -/
theorem colHead_key : ∀ (b : Fin 16) (k x : Fin 10), colHead (BitVec.ofNat 32 x.val) (BitVec.ofNat 32 (keyCol b k).val) = BitVec.ofBool (decide (x = k)) := by
  decide +kernel

/-- A count's column is of no head. -/
theorem colHead_pool : ∀ (b : Fin 16) (x : Fin 10), colHead (BitVec.ofNat 32 x.val) (BitVec.ofNat 32 (poolCol b).val) = 0#1 := by decide +kernel

/-- A head's column is not a count's. -/
theorem colCount_key : ∀ (b : Fin 16) (k : Fin 10), IntOp.cmpi .sge (BitVec.ofNat 32 (keyCol b k).val) 160#32 = 0#1 := by decide +kernel

/-- A count's column is one. -/
theorem colCount_pool : ∀ b : Fin 16, IntOp.cmpi .sge (BitVec.ofNat 32 (poolCol b).val) 160#32 = 1#1 := by decide +kernel

/-- A bit that is zero, as a number. -/
theorem sitofp_bit0 : (FloatOps.sitofp .f32 (BitVec.setWidth 32 (0#1)) : Ideal .f32) = (0 : EReal) := by
  show (((BitVec.setWidth 32 (0#1)).toInt : ℝ) : EReal) = 0
  simp

/-- A bit that is one, as a number. -/
theorem sitofp_bit1 : (FloatOps.sitofp .f32 (BitVec.setWidth 32 (1#1)) : Ideal .f32) = (1 : EReal) := by
  show (((BitVec.setWidth 32 (1#1)).toInt : ℝ) : EReal) = 1
  have : (BitVec.setWidth 32 (1#1)).toInt = 1 := by decide
  rw [this]
  simp

/-- A decided bit, as a number. -/
theorem sitofp_bit (p : Prop) [Decidable p] : (FloatOps.sitofp .f32 (BitVec.setWidth 32 (BitVec.ofBool (decide p))) : Ideal .f32) = if p then (1 : EReal) else 0 := by
  by_cases h : p
  · rw [if_pos h, decide_eq_true h]
    exact sitofp_bit1
  · rw [if_neg h, decide_eq_false h]
    exact sitofp_bit0

/-- An encoded row's entry of a tile. -/
theorem pay12_at (X : FVec Ideal S8192x256 .f32) (We : FVec Ideal S256x256 .f32) (be : FVec Ideal S1x256 .f32) (n : Fin 8192) (d : Fin 256) :
    k0_pay12 (F := Ideal) X We be (ix2 n d) = ∑ x : Fin 256, X (ix2 n x) * We (ix2 x d) + be (ix2 0 d) := by
  pointwise [k0_pay12]

/-- A weight of a tile. -/
theorem pay13_at (X : FVec Ideal S8192x256 .f32) (We : FVec Ideal S256x256 .f32) (be : FVec Ideal S1x256 .f32) (Ww : FVec Ideal S256x10 .f32)
    (bw : FVec Ideal S1x10 .f32) (n : Fin 8192) (k : Fin 10) :
    k0_pay13 (F := Ideal) X We be Ww bw (ix2 n k)
      = Ideal.div 1 (1 + Ideal.exp (-(∑ x : Fin 256, k0_pay12 (F := Ideal) X We be (ix2 n x) * Ww (ix2 x k) + bw (ix2 0 k)))) := by
  pointwise [k0_pay13]
  rfl

/-- The mask of the segments, before the weights. -/
def segMask (v20 : IVec S8192x1 32) : FVec Ideal S8192x176 .f32 :=
  k0_pay18 (F := Ideal) v20 cols k0_pay15 10#32 k0_pay16 k0_pay17 1#32

/-- An entry of the mask of the segments. -/
theorem segMask_at (v20 : IVec S8192x1 32) (n : Fin 8192) (j : Fin 176) (b : Fin 16) (hj : colSeg (BitVec.ofNat 32 j.val) = BitVec.ofNat 32 b.val) :
    segMask v20 (ix2 n j) = if (v20 (ix2 n 0)).toNat = b.val then (1 : EReal) else 0 := by
  have e : segMask v20 (ix2 n j) = FloatOps.sitofp .f32 (BitVec.setWidth 32 (IntOp.cmpi .eq (v20 (ix2 n 0)) (colSeg (BitVec.ofNat 32 j.val)))) := by
    pointwise [segMask, k0_pay18, k0_pay14, k0_pay15, k0_pay16, k0_pay17]
    rfl
  have hb := b.isLt
  rw [e, hj, WordCmp.cmpi_eq_eq_toNat, BitVec.toNat_ofNat, Nat.mod_eq_of_lt (by omega)]
  exact sitofp_bit _

/-- A sum of weights against the heads of a column. -/
theorem pay19_at (v18 : FVec Ideal S8192x10 .f32) (n : Fin 8192) (j : Fin 176) :
    k0_pay19 (F := Ideal) v18 (ix2 n j)
      = ∑ x : Fin 10, v18 (ix2 n x) * FloatOps.sitofp .f32 (BitVec.setWidth 32 (colHead (BitVec.ofNat 32 x.val) (BitVec.ofNat 32 j.val))) := by
  pointwise [k0_pay19]
  rfl

/-- A head's column reads its weight. -/
theorem pay19_key (v18 : FVec Ideal S8192x10 .f32) (n : Fin 8192) (b : Fin 16) (k : Fin 10) : k0_pay19 (F := Ideal) v18 (ix2 n (keyCol b k)) = v18 (ix2 n k) := by
  rw [pay19_at]
  refine (Finset.sum_eq_single k (fun x _ hx => ?_) (fun e => absurd (Finset.mem_univ _) e)).trans ?_
  · rw [colHead_key, sitofp_bit, if_neg hx]
    exact mul_zero (_ : EReal)
  · rw [colHead_key, sitofp_bit, if_pos rfl]
    exact mul_one (_ : EReal)

/-- A count's column reads no weight. -/
theorem pay19_pool (v18 : FVec Ideal S8192x10 .f32) (n : Fin 8192) (b : Fin 16) : k0_pay19 (F := Ideal) v18 (ix2 n (poolCol b)) = 0 := by
  rw [pay19_at]
  refine Finset.sum_eq_zero fun x _ => ?_
  rw [colHead_pool, sitofp_bit0]
  exact mul_zero (_ : EReal)

/-- An entry of the weighted mask. -/
theorem pay1_at (v54 v79 : FVec Ideal S8192x176 .f32) (n : Fin 8192) (j : Fin 176) :
    k0_pay1 (F := Ideal) v54 v79 (k0_pay20 cols) (ix2 n j)
      = v54 (ix2 n j) * (v79 (ix2 n j) + FloatOps.sitofp .f32 (BitVec.setWidth 32 (IntOp.cmpi .sge (BitVec.ofNat 32 j.val) 160#32))) := by
  pointwise [k0_pay1, k0_pay20]

/-- The weighted mask of a tile from its ids and weights. -/
def tileMask (v20 : IVec S8192x1 32) (v18 : FVec Ideal S8192x10 .f32) : FVec Ideal S8192x176 .f32 :=
  k0_pay1 (F := Ideal) (segMask v20) (k0_pay19 (F := Ideal) v18) (k0_pay20 cols)

/-- The weighted mask at a head's column: the weight of a token of the segment. -/
theorem tileMask_key (v20 : IVec S8192x1 32) (v18 : FVec Ideal S8192x10 .f32) (n : Fin 8192) (b : Fin 16) (k : Fin 10) :
    tileMask v20 v18 (ix2 n (keyCol b k)) = if (v20 (ix2 n 0)).toNat = b.val then (v18 (ix2 n k) : EReal) else 0 := by
  unfold tileMask
  rw [pay1_at, segMask_at _ _ _ _ (colSeg_key b k), pay19_key, colCount_key, sitofp_bit0]
  show (_ : EReal) * ((v18 (ix2 n k) : EReal) + 0) = _
  rw [add_zero, ite_mul, one_mul, zero_mul]

/-- The weighted mask at a count's column: one for a token of the segment. -/
theorem tileMask_pool (v20 : IVec S8192x1 32) (v18 : FVec Ideal S8192x10 .f32) (n : Fin 8192) (b : Fin 16) :
    tileMask v20 v18 (ix2 n (poolCol b)) = if (v20 (ix2 n 0)).toNat = b.val then (1 : EReal) else 0 := by
  unfold tileMask
  rw [pay1_at, segMask_at _ _ _ _ (colSeg_pool b), pay19_pool, colCount_pool, sitofp_bit1]
  show (_ : EReal) * ((0 : EReal) + 1) = _
  rw [zero_add, mul_one]

/-- The row sums after a tile: those before it and the tile's. -/
theorem pay2_at (v11 : FVec Ideal S8192x256 .f32) (v54 v79 : FVec Ideal S8192x176 .f32) (v81 : IVec S8192x176 1) (acc : FVec Ideal S176x256 .f32)
    (j : Fin 176) (d : Fin 256) :
    k0_pay2 (F := Ideal) k0_pay10 v11 v54 v79 v81 acc (ix2 j d) = acc (ix2 j d) + ∑ x : Fin 8192, k0_pay1 (F := Ideal) v54 v79 v81 (ix2 x j) * v11 (ix2 x d) := by
  have e : k0_pay2 (F := Ideal) k0_pay10 v11 v54 v79 v81 acc (ix2 j d)
      = acc (ix2 j d) + (0 + ∑ x : Fin 8192, k0_pay1 (F := Ideal) v54 v79 v81 (ix2 x j) * v11 (ix2 x d)) := by pointwise [k0_pay2, k0_pay10]
  rw [e]
  exact congrArg (fun q : EReal => (acc (ix2 j d) : EReal) + q) (zero_add _)

/-- The weight sums after a tile: those before it and the tile's. -/
theorem pay3_at (v54 v79 : FVec Ideal S8192x176 .f32) (v81 : IVec S8192x176 1) (acc : FVec Ideal S1x176 .f32) (j : Fin 176) :
    k0_pay3 (F := Ideal) k0_pay11 v54 v79 v81 acc (ix2 0 j) = acc (ix2 0 j) + ∑ x : Fin 8192, k0_pay1 (F := Ideal) v54 v79 v81 (ix2 x j) := by
  have e : k0_pay3 (F := Ideal) k0_pay11 v54 v79 v81 acc (ix2 0 j)
      = acc (ix2 0 j) + (0 + ∑ x : Fin 8192, k0_pay1 (F := Ideal) v54 v79 v81 (ix2 x j)) := by pointwise [k0_pay3, k0_pay11]
  rw [e]
  exact congrArg (fun q : EReal => (acc (ix2 0 j) : EReal) + q) (zero_add _)

/-- The row sums start at zero. -/
theorem pay8_at (j : Fin 176) (d : Fin 256) : k0_pay8 (F := Ideal) (ix2 j d) = (0 : EReal) := by
  pointwise [k0_pay8]

/-- The weight sums start at zero. -/
theorem pay9_at (j : Fin 176) : k0_pay9 (F := Ideal) (ix2 0 j) = (0 : EReal) := by
  pointwise [k0_pay9]

/-- A row of the keys: the row sum over the weight sum. -/
theorem pay4_at (den : FVec Ideal S1x160 .f32) (num : FVec Ideal S160x256 .f32) (j : Fin 160) (d : Fin 256) :
    k0_pay4 (F := Ideal) den num (ix2 j d) = Ideal.div (num (ix2 j d)) (max (den (ix2 0 j)) (Ideal.ofBits .f32 0x358637BD#32)) := by
  pointwise [k0_pay4]

/-- A mean row: the row sum over the token count. -/
theorem pay5_at (den : FVec Ideal S1x16 .f32) (num : FVec Ideal S16x256 .f32) (b : Fin 16) (d : Fin 256) :
    k0_pay5 (F := Ideal) den num (ix2 b d) = Ideal.div (num (ix2 b d)) (max (den (ix2 0 b)) 1) := by
  pointwise [k0_pay5]

/-- The first query head over the mean rows. -/
theorem pay6_at (den : FVec Ideal S1x16 .f32) (num : FVec Ideal S16x256 .f32) (Wq : FVec Ideal S256x256 .f32) (bq : FVec Ideal S1x256 .f32) (b : Fin 16) (d : Fin 256) :
    k0_pay6 (F := Ideal) den num Wq bq (ix2 b d) = ∑ x : Fin 256, k0_pay5 (F := Ideal) den num (ix2 b x) * Wq (ix2 x d) + bq (ix2 0 d) := by
  pointwise [k0_pay6]

/-- The second query head over the mean rows. -/
theorem pay7_at (den : FVec Ideal S1x16 .f32) (num : FVec Ideal S16x256 .f32) (Wq : FVec Ideal S256x256 .f32) (bq : FVec Ideal S1x256 .f32) (b : Fin 16) (d : Fin 256) :
    k0_pay7 (F := Ideal) den num Wq bq (ix2 b d) = ∑ x : Fin 256, k0_pay5 (F := Ideal) den num (ix2 b x) * Wq (ix2 x d) + bq (ix2 0 d) := by
  pointwise [k0_pay7]

end Cert.Keys

end
-- ==== Proof.Steps.lean ====
module

public import proofs.«01_k».proof.Proof.Gen.KernelIdeal.Frame
public import proofs.«01_k».proof.Proof.Payload
public import Idealize.ShloMosaic.Lib.Pipeline.ValueKit
public import Idealize.ShloMosaic.Lib.Pipeline.ReadBack

@[expose] public section

set_option maxRecDepth 16384

noncomputable section

/-! What each grid point leaves in the two accumulators, and what the last one leaves in the results. -/

namespace Cert.Keys

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The encoded rows of a grid point's tile. -/
def tileFeats (t : Fin cfg0.N) : FVec Ideal S8192x256 .f32 := k0_pay12 (F := Ideal) (iblk m c 0 t) (iblk m c 2 t) (iblk m c 3 t)

/-- The weights of a grid point's tile. -/
def tileWeights (t : Fin cfg0.N) : FVec Ideal S8192x10 .f32 :=
  k0_pay13 (F := Ideal) (iblk m c 0 t) (iblk m c 2 t) (iblk m c 3 t) (iblk m c 4 t) (iblk m c 5 t)

/-- The ids of a grid point's tile. -/
def tileIds (t : Fin cfg0.N) : IVec S8192x1 32 := k0_pay14 (F := Ideal) (iblk m c 1 t)

/-- The row sums after a grid point, from those before it. -/
def numStep (t : Fin cfg0.N) (acc : FVec Ideal S176x256 .f32) : FVec Ideal S176x256 .f32 :=
  k0_pay2 (F := Ideal) k0_pay10 (tileFeats m c t) (segMask (tileIds m c t)) (k0_pay19 (tileWeights m c t)) (k0_pay20 cols) acc

/-- The weight sums after a grid point, from those before it. -/
def denStep (t : Fin cfg0.N) (acc : FVec Ideal S1x176 .f32) : FVec Ideal S1x176 .f32 :=
  k0_pay3 (F := Ideal) k0_pay11 (segMask (tileIds m c t)) (k0_pay19 (tileWeights m c t)) (k0_pay20 cols) acc

/-- The row sums a grid point leaves. -/
def numOut (n : ℕ) (h : n < cfg0.N) : FVec Ideal S176x256 .f32 := (outsAt0 m c n h).2.2.2.1

/-- The weight sums a grid point leaves. -/
def denOut (n : ℕ) (h : n < cfg0.N) : FVec Ideal S1x176 .f32 := (outsAt0 m c n h).2.2.2.2

/-- The first point starts the row sums from zero. -/
theorem num_first (t : Fin cfg0.N) (h0 : t.val % 4 = 0) : numOut m c t.val t.isLt = numStep m c t k0_pay8 := by
  unfold numOut
  rw [outsAt0_A m c t h0 (by omega)]
  frame_out
  rfl

/-- The first point starts the weight sums from zero. -/
theorem den_first (t : Fin cfg0.N) (h0 : t.val % 4 = 0) : denOut m c t.val t.isLt = denStep m c t k0_pay9 := by
  unfold denOut
  rw [outsAt0_A m c t h0 (by omega)]
  frame_out
  rfl

/-- A later point adds to the row sums. -/
theorem num_step (t : Fin cfg0.N) (h0 : ¬t.val % 4 = 0) :
    numOut m c t.val t.isLt = numStep m c t (numOut m c (t.val - 1) (Nat.lt_of_le_of_lt (Nat.sub_le _ _) t.isLt)) := by
  unfold numOut
  by_cases h1 : t.val % 4 = 3
  · rw [outsAt0_C m c t h0 h1]
    frame_out
    rw [read_unread_whole]
    rfl
  · rw [outsAt0_B m c t h0 h1]
    frame_out
    rw [read_unread_whole]
    rfl

/-- A later point adds to the weight sums. -/
theorem den_step (t : Fin cfg0.N) (h0 : ¬t.val % 4 = 0) :
    denOut m c t.val t.isLt = denStep m c t (denOut m c (t.val - 1) (Nat.lt_of_le_of_lt (Nat.sub_le _ _) t.isLt)) := by
  unfold denOut
  by_cases h1 : t.val % 4 = 3
  · rw [outsAt0_C m c t h0 h1]
    frame_out
    rw [read_unread_whole]
    rfl
  · rw [outsAt0_B m c t h0 h1]
    frame_out
    rw [read_unread_whole]
    rfl

/-- The head columns of the weight sums. -/
def keyDen (den : FVec Ideal S1x176 .f32) : FVec Ideal S1x160 .f32 := View.ld (Val := Elt Ideal) (e' := .f32) den (Rect.unit (s := S1x176) ![0, 0] ![1, 160] inb_S1x176_S1x160_0_0)

/-- The head rows of the row sums. -/
def keyNum (num : FVec Ideal S176x256 .f32) : FVec Ideal S160x256 .f32 := View.ld (Val := Elt Ideal) (e' := .f32) num (Rect.unit (s := S176x256) ![0, 0] ![160, 256] inb_S176x256_S160x256_0_0)

/-- The count columns of the weight sums. -/
def poolDen (den : FVec Ideal S1x176 .f32) : FVec Ideal S1x16 .f32 := View.ld (Val := Elt Ideal) (e' := .f32) den (Rect.unit (s := S1x176) ![0, 160] ![1, 16] inb_S1x176_S1x16_0_160)

/-- The plain rows of the row sums. -/
def poolNum (num : FVec Ideal S176x256 .f32) : FVec Ideal S16x256 .f32 := View.ld (Val := Elt Ideal) (e' := .f32) num (Rect.unit (s := S176x256) ![160, 0] ![16, 256] inb_S176x256_S16x256_160_0)

/-- The last point's keys. -/
theorem keys_last (t : Fin cfg0.N) (h0 : ¬t.val % 4 = 0) (h1 : t.val % 4 = 3) :
    (outsAt0 m c t.val t.isLt).1 = k0_pay4 (F := Ideal) (keyDen (denOut m c t.val t.isLt)) (keyNum (numOut m c t.val t.isLt)) := by
  rw [num_step m c t h0, den_step m c t h0]
  unfold numOut denOut
  rw [outsAt0_C m c t h0 h1]
  frame_out
  rw [read_unread_whole, read_unread_whole, View.readCov_fill _ _ _ _ _ (by decide), View.readCov_fill _ _ _ _ _ (by decide)]
  rfl

/-- The last point's first query head. -/
theorem q1_last (t : Fin cfg0.N) (h0 : ¬t.val % 4 = 0) (h1 : t.val % 4 = 3) :
    (outsAt0 m c t.val t.isLt).2.1 = k0_pay6 (F := Ideal) (poolDen (denOut m c t.val t.isLt)) (poolNum (numOut m c t.val t.isLt)) (iblk m c 6 t) (iblk m c 7 t) := by
  rw [num_step m c t h0, den_step m c t h0]
  unfold numOut denOut
  rw [outsAt0_C m c t h0 h1]
  frame_out
  rw [read_unread_whole, read_unread_whole, View.readCov_fill _ _ _ _ _ (by decide), View.readCov_fill _ _ _ _ _ (by decide)]
  rfl

/-- The last point's second query head. -/
theorem q2_last (t : Fin cfg0.N) (h0 : ¬t.val % 4 = 0) (h1 : t.val % 4 = 3) :
    (outsAt0 m c t.val t.isLt).2.2.1 = k0_pay7 (F := Ideal) (poolDen (denOut m c t.val t.isLt)) (poolNum (numOut m c t.val t.isLt)) (iblk m c 8 t) (iblk m c 9 t) := by
  rw [num_step m c t h0, den_step m c t h0]
  unfold numOut denOut
  rw [outsAt0_C m c t h0 h1]
  frame_out
  rw [read_unread_whole, read_unread_whole, View.readCov_fill _ _ _ _ _ (by decide), View.readCov_fill _ _ _ _ _ (by decide)]
  rfl

end Cert.Keys

end
-- ==== Proof.RefDefs.lean ====
module

public import proofs.«01_k».proof.Proof.Gen.ReferenceIdeal.Run
public import Idealize.ShloMosaic.Lib.Pointwise

@[expose] public section

set_option maxRecDepth 16384

noncomputable section

/-! The reference's results as a short chain of named functions of the arguments. -/

namespace Cert.Keys

open Idealize.ShloMosaic Idealize.ShloMosaic.TcCoe Idealize.SL.Sem
open Cert.ReferenceIdeal Cert.ReferenceIdeal.Gen

/-- The encoded rows of the tokens. -/
def refFeats (X : FVec Ideal S32768x256 .f32) (We : FVec Ideal S256x256 .f32) (be : FVec Ideal S256 .f32) : FVec Ideal S32768x256 .f32 :=
  addf (Host.dotGeneral dot_S32768x256_S256x256_S32768x256_1_0_0_1_n_n none X We)
    (broadcastInDim S32768x256 ![0, 1] bcast_S1x256_S32768x256_0_1 (broadcastInDim S1x256 ![1] bcast_S256_S1x256_1 be))

/-- The sigmoid weights of the tokens, one per head, from the encoded rows. -/
def refWeights (E : FVec Ideal S32768x256 .f32) (Ww : FVec Ideal S256x10 .f32) (bw : FVec Ideal S10 .f32) : FVec Ideal S32768x10 .f32 :=
  Host.divf (broadcastInDim S32768x10 ![] bcast_S_S32768x10 (constant S_ .f32 0x3F800000#32))
    (addf (broadcastInDim S32768x10 ![] bcast_S_S32768x10 (constant S_ .f32 0x3F800000#32))
      (Host.exp (Host.negf (addf (Host.dotGeneral dot_S32768x256_S256x10_S32768x10_1_0_0_1_n_n none E Ww)
        (broadcastInDim S32768x10 ![0, 1] bcast_S1x10_S32768x10_0_1 (broadcastInDim S1x10 ![1] bcast_S10_S1x10_1 bw))))))

/-- The ids as a column of index words. -/
def idCol (ids : IVec S32768 32) : IVec S32768x1 32 := broadcastInDim S32768x1 ![0] bcast_S32768_S32768x1_0 ids

/-- The segment sums of the weighted rows. -/
def refNum (E : FVec Ideal S32768x256 .f32) (W : FVec Ideal S32768x10 .f32) (ids : IVec S32768 32) : FVec Ideal S16x10x256 .f32 :=
  Host.scatterAdd scatter_S16x10x256_S32768x1_S32768x10x256_12_0_0_1
    (broadcastInDim S16x10x256 ![] bcast_S_S16x10x256 (constant S_ .f32 0x00000000#32)) (idCol ids)
    (mulf (broadcastInDim S32768x10x256 ![0, 1, 2] bcast_S32768x1x256_S32768x10x256_0_1_2
        (broadcastInDim S32768x1x256 ![0, 2] bcast_S32768x256_S32768x1x256_0_2 E))
      (broadcastInDim S32768x10x256 ![0, 1, 2] bcast_S32768x10x1_S32768x10x256_0_1_2
        (broadcastInDim S32768x10x1 ![0, 1] bcast_S32768x10_S32768x10x1_0_1 W)))

/-- The segment sums of the weights. -/
def refDen (W : FVec Ideal S32768x10 .f32) (ids : IVec S32768 32) : FVec Ideal S16x10 .f32 :=
  Host.scatterAdd scatter_S16x10_S32768x1_S32768x10_1_0_0_1
    (broadcastInDim S16x10 ![] bcast_S_S16x10 (constant S_ .f32 0x00000000#32)) (idCol ids) W

/-- The keys from the segment sums. -/
def refKeys (num : FVec Ideal S16x10x256 .f32) (den : FVec Ideal S16x10 .f32) : FVec Ideal S16x10x256 .f32 :=
  Host.divf num
    (broadcastInDim S16x10x256 ![0, 1, 2] bcast_S16x10x1_S16x10x256_0_1_2
      (broadcastInDim S16x10x1 ![0, 1] bcast_S16x10_S16x10x1_0_1
        (maximumf den (broadcastInDim S16x10 ![] bcast_S_S16x10 (constant S_ .f32 0x358637BD#32)))))

/-- A word for every token. -/
def words (w : BitVec 32) : IVec S32768 32 := broadcastInDim S32768 ![] bcast_S_S32768 (constantI S_ 32 w)

/-- An index counted from the end of the axis where it is negative. -/
def wrapped (x : IVec S32768 32) (len : BitVec 32) : IVec S32768 32 := select (cmpi .slt x (words 0#32)) (addi x (words len)) x

/-- The ids with the negative ones raised to zero. -/
def raised (ids : IVec S32768 32) : IVec S32768 32 := maxsi (broadcastInDim S32768 ![] bcast_S_S32768 (id (constantI S_ 32 0#32))) ids

/-- The number of tokens of each segment. -/
def refCounts (ids : IVec S32768 32) : IVec S16 32 :=
  Host.scatter scatter_S16_S32768x1_S32768_n_0_0_1 IntOp.addi (broadcastInDim S16 ![] bcast_S_S16 (constantI S_ 32 0#32))
    (idCol (wrapped (raised ids) 16#32)) (words 1#32)

/-- The running sums of the counts. -/
def refCumsum (c : IVec S16 32) : IVec S16 32 :=
  Host.reduceWindow IntOp.addi ![16] ![1] ![15] ![0] c (broadcastInDim S_ ![] bcast_S_S_ (constantI S_ 32 0#32)) reduceWindows_S16_S16_w16s1p15_0 h_S_

/-- The first token of each segment. -/
def refOffsets (c : IVec S16 32) : IVec S16 32 :=
  concatenate S16 0 [⟨S1, broadcastInDim S1 ![] bcast_S_S1 (constantI S_ 32 0#32)⟩,
    ⟨S15, extractStridedSlice S15 ![0] (refCumsum c) slices_S16_S15_0⟩] concatenates_S1_S15_S16_d0

/-- The slot of each token inside its segment. -/
def refPos (ids : IVec S32768 32) : IVec S32768 32 :=
  subi (iotaInDim S32768 32 0) (Host.gather gather_S16_S32768x1_S32768_n_0_n_n_0_1_1 (refOffsets (refCounts ids)) (idCol (wrapped ids 16#32)))

/-- The pair of index words of each token: its segment and its slot. -/
def refPairs (ids : IVec S32768 32) : IVec S32768x2 32 :=
  concatenate S32768x2 1 [⟨S32768x1, idCol (wrapped ids 16#32)⟩, ⟨S32768x1, idCol (wrapped (refPos ids) 4096#32)⟩]
    concatenates_S32768x1_S32768x1_S32768x2_d1

/-- The encoded rows laid out in the padded batch. -/
def refPadded (E : FVec Ideal S32768x256 .f32) (idx : IVec S32768x2 32) : FVec Ideal S16x4096x256 .f32 :=
  Host.scatter scatter_S16x4096x256_S32768x2_S32768x256_1_01_01_1 (fun _ b => b)
    (broadcastInDim S16x4096x256 ![] bcast_S_S16x4096x256 (constant S_ .f32 0x00000000#32)) idx E

/-- The padding mask. -/
def refMask (idx : IVec S32768x2 32) : FVec Ideal S16x4096 .f32 :=
  Host.scatter scatter_S16x4096_S32768x2_S32768_n_01_01_1 (fun _ b => b)
    (broadcastInDim S16x4096 ![] bcast_S_S16x4096 (constant S_ .f32 0x00000000#32)) idx
    (broadcastInDim S32768 ![] bcast_S_S32768 (constant S_ .f32 0x3F800000#32))

/-- The mean row of each segment. -/
def refPooled (P : FVec Ideal S16x4096x256 .f32) (M : FVec Ideal S16x4096 .f32) : FVec Ideal S16x256 .f32 :=
  Host.divf
    (Host.reduceAdd (mulf P (broadcastInDim S16x4096x256 ![0, 1, 2] bcast_S16x4096x1_S16x4096x256_0_1_2
      (broadcastInDim S16x4096x1 ![0, 1] bcast_S16x4096_S16x4096x1_0_1 M))) (constant S_ .f32 0x00000000#32) reducesTo_S16x4096x256_S16x256_d1 h_S_)
    (broadcastInDim S16x256 ![0, 1] bcast_S16x1_S16x256_0_1
      (maximumf (broadcastInDim S16x1 ![0] bcast_S16_S16x1_0
          (Host.reduceAdd M (constant S_ .f32 0x00000000#32) reducesTo_S16x4096_S16_d1 h_S_))
        (broadcastInDim S16x1 ![] bcast_S_S16x1 (constant S_ .f32 0x3F800000#32))))

/-- A query head over the mean rows. -/
def refQuery (P : FVec Ideal S16x256 .f32) (Wq : FVec Ideal S256x256 .f32) (bq : FVec Ideal S256 .f32) : FVec Ideal S16x256 .f32 :=
  addf (Host.dotGeneral dot_S16x256_S256x256_S16x256_1_0_0_1_n_n none P Wq)
    (broadcastInDim S16x256 ![0, 1] bcast_S1x256_S16x256_0_1 (broadcastInDim S1x256 ![1] bcast_S256_S1x256_1 bq))

variable (m : (ℓ : Loc nD τ sig) → Buf (Elt Ideal) ℓ) (c : Dev nD)

/-- The encoded rows over the reference's memory. -/
abbrev memFeats : FVec Ideal S32768x256 .f32 :=
  refFeats (m ((c.tc : Thread nD τ).loc main_arg0)) (m ((c.tc : Thread nD τ).loc main_arg1)) (m ((c.tc : Thread nD τ).loc main_arg2))

/-- The second result is the first query head over the mean rows. -/
theorem res_q1 : Value.res_main_v97 m c
    = refQuery (refPooled (refPadded (memFeats m c) (refPairs (m ((c.tc : Thread nD τ).loc main_arg9)))) (refMask (refPairs (m ((c.tc : Thread nD τ).loc main_arg9)))))
        (m ((c.tc : Thread nD τ).loc main_arg5)) (m ((c.tc : Thread nD τ).loc main_arg6)) := rfl

/-- The third result is the second query head over the mean rows. -/
theorem res_q2 : Value.res_main_v101 m c
    = refQuery (refPooled (refPadded (memFeats m c) (refPairs (m ((c.tc : Thread nD τ).loc main_arg9)))) (refMask (refPairs (m ((c.tc : Thread nD τ).loc main_arg9)))))
        (m ((c.tc : Thread nD τ).loc main_arg7)) (m ((c.tc : Thread nD τ).loc main_arg8)) := rfl

end Cert.Keys

end
-- ==== Proof.Landing.lean ====
module

public import proofs.«01_k».proof.Proof.Gen.ReferenceIdeal.Run
public import Idealize.ShloMosaic.Lib.Routing.OpsSet
public import Idealize.ShloMosaic.Lib.Routing.OpsPair
public import Idealize.ShloMosaic.Lib.Pointwise

@[expose] public section

set_option maxRecDepth 16384

noncomputable section

/-! Where the updates of the reference's scatters land: each update's target is read off its index words. -/

namespace Cert.Keys

open Idealize.ShloMosaic Idealize.ShloMosaic.Routing
open Cert.ReferenceIdeal Cert.ReferenceIdeal.Gen

/-- Update `(n, k, d)` of the segment sum of the weighted rows lands at `(b, k', d')` exactly when token `n`'s id,
    read signed, is `b` and the other coordinates agree. -/
theorem lands_rows (ids : IVec S32768x1 32) (n : Fin 32768) (k k' : Fin 10) (d d' : Fin 256) (b : Fin 16) :
    scatter_S16x10x256_S32768x1_S32768x10x256_12_0_0_1.resultIdx? (ix3 n k d) ids = some (ix3 b k' d')
      ↔ (ids (ix2 n 0)).toInt = b.val ∧ k = k' ∧ d = d' := by
  have h0 : scatter_S16x10x256_S32768x1_S32768x10x256_12_0_0_1.start (ix3 n k d) ids 0 = (ids (ix2 n 0)).toInt := by
    unfold ScatterDims.start
    refine (dif_pos (List.mem_singleton.2 rfl)).trans ?_
    refine congrArg (fun j => (ids j).toInt) (funext fun a => ?_)
    match a with
    | ⟨0, _⟩ => rfl
    | ⟨1, _⟩ => rfl
  have h1 : scatter_S16x10x256_S32768x1_S32768x10x256_12_0_0_1.start (ix3 n k d) ids 1 = 0 := rfl
  have h2 : scatter_S16x10x256_S32768x1_S32768x10x256_12_0_0_1.start (ix3 n k d) ids 2 = 0 := rfl
  have w0 : scatter_S16x10x256_S32768x1_S32768x10x256_12_0_0_1.window (ix3 n k d) 0 = 0 := rfl
  have w1 : scatter_S16x10x256_S32768x1_S32768x10x256_12_0_0_1.window (ix3 n k d) 1 = k.val := rfl
  have w2 : scatter_S16x10x256_S32768x1_S32768x10x256_12_0_0_1.window (ix3 n k d) 2 = d.val := rfl
  rw [resultIdx?_eq_some, Fin.ext_iff, Fin.ext_iff]
  constructor
  · intro h
    have a0 : _ = ((b.val : ℕ) : ℤ) := h 0
    have a1 : _ = ((k'.val : ℕ) : ℤ) := h 1
    have a2 : _ = ((d'.val : ℕ) : ℤ) := h 2
    rw [h0, w0] at a0; rw [h1, w1] at a1; rw [h2, w2] at a2
    omega
  · rintro ⟨e0, e1, e2⟩ a
    match a with
    | ⟨0, _⟩ => show _ = ((b.val : ℕ) : ℤ); erw [h0, w0]; omega
    | ⟨1, _⟩ => show _ = ((k'.val : ℕ) : ℤ); erw [h1, w1]; omega
    | ⟨2, _⟩ => show _ = ((d'.val : ℕ) : ℤ); erw [h2, w2]; omega

/-- Update `(n, k)` of the segment sum of the weights lands at `(b, k')` exactly when token `n`'s id, read signed, is
    `b` and the heads agree. -/
theorem lands_weights (ids : IVec S32768x1 32) (n : Fin 32768) (k k' : Fin 10) (b : Fin 16) :
    scatter_S16x10_S32768x1_S32768x10_1_0_0_1.resultIdx? (ix2 n k) ids = some (ix2 b k')
      ↔ (ids (ix2 n 0)).toInt = b.val ∧ k = k' := by
  have h0 : scatter_S16x10_S32768x1_S32768x10_1_0_0_1.start (ix2 n k) ids 0 = (ids (ix2 n 0)).toInt := by
    unfold ScatterDims.start
    refine (dif_pos (List.mem_singleton.2 rfl)).trans ?_
    refine congrArg (fun j => (ids j).toInt) (funext fun a => ?_)
    match a with
    | ⟨0, _⟩ => rfl
    | ⟨1, _⟩ => rfl
  have h1 : scatter_S16x10_S32768x1_S32768x10_1_0_0_1.start (ix2 n k) ids 1 = 0 := rfl
  have w0 : scatter_S16x10_S32768x1_S32768x10_1_0_0_1.window (ix2 n k) 0 = 0 := rfl
  have w1 : scatter_S16x10_S32768x1_S32768x10_1_0_0_1.window (ix2 n k) 1 = k.val := rfl
  rw [resultIdx?_eq_some, Fin.ext_iff]
  constructor
  · intro h
    have a0 : _ = ((b.val : ℕ) : ℤ) := h 0
    have a1 : _ = ((k'.val : ℕ) : ℤ) := h 1
    rw [h0, w0] at a0; rw [h1, w1] at a1
    omega
  · rintro ⟨e0, e1⟩ a
    match a with
    | ⟨0, _⟩ => show _ = ((b.val : ℕ) : ℤ); erw [h0, w0]; omega
    | ⟨1, _⟩ => show _ = ((k'.val : ℕ) : ℤ); erw [h1, w1]; omega

/-- Update `n` of the count of the tokens of each segment lands at `b` exactly when its index word, read signed, is `b`. -/
theorem lands_count (ids : IVec S32768x1 32) (n : Fin 32768) (b : Fin 16) :
    scatter_S16_S32768x1_S32768_n_0_0_1.resultIdx? (ix1 n) ids = some (ix1 b) ↔ (ids (ix2 n 0)).toInt = b.val := by
  have h0 : scatter_S16_S32768x1_S32768_n_0_0_1.start (ix1 n) ids 0 = (ids (ix2 n 0)).toInt := by
    unfold ScatterDims.start
    refine (dif_pos (List.mem_singleton.2 rfl)).trans ?_
    refine congrArg (fun j => (ids j).toInt) (funext fun a => ?_)
    match a with
    | ⟨0, _⟩ => rfl
    | ⟨1, _⟩ => rfl
  have w0 : scatter_S16_S32768x1_S32768_n_0_0_1.window (ix1 n) 0 = 0 := rfl
  rw [resultIdx?_eq_some]
  constructor
  · intro h
    have a0 : _ = ((b.val : ℕ) : ℤ) := h 0
    rw [h0, w0] at a0
    omega
  · intro e0 a
    match a with
    | ⟨0, _⟩ => show _ = ((b.val : ℕ) : ℤ); erw [h0, w0]; omega

/-- Update `(n, d)` of the padded batch lands at `(b, p, d')` exactly when token `n`'s two index words, read signed,
    are `b` and `p` and the lanes agree. -/
theorem lands_padded (idx : IVec S32768x2 32) (n : Fin 32768) (d d' : Fin 256) (b : Fin 16) (p : Fin 4096) :
    scatter_S16x4096x256_S32768x2_S32768x256_1_01_01_1.resultIdx? (ix2 n d) idx = some (ix3 b p d')
      ↔ (idx (ix2 n 0)).toInt = b.val ∧ (idx (ix2 n 1)).toInt = p.val ∧ d = d' := by
  have h0 : scatter_S16x4096x256_S32768x2_S32768x256_1_01_01_1.start (ix2 n d) idx 0 = (idx (ix2 n 0)).toInt := by
    unfold ScatterDims.start
    refine (dif_pos (List.mem_cons.2 (.inl rfl))).trans ?_
    refine congrArg (fun j => (idx j).toInt) (funext fun a => ?_)
    match a with
    | ⟨0, _⟩ => rfl
    | ⟨1, _⟩ => rfl
  have h1 : scatter_S16x4096x256_S32768x2_S32768x256_1_01_01_1.start (ix2 n d) idx 1 = (idx (ix2 n 1)).toInt := by
    unfold ScatterDims.start
    refine (dif_pos (List.mem_cons.2 (.inr (List.mem_singleton.2 rfl)))).trans ?_
    refine congrArg (fun j => (idx j).toInt) (funext fun a => ?_)
    match a with
    | ⟨0, _⟩ => rfl
    | ⟨1, _⟩ => rfl
  have h2 : scatter_S16x4096x256_S32768x2_S32768x256_1_01_01_1.start (ix2 n d) idx 2 = 0 := rfl
  have w0 : scatter_S16x4096x256_S32768x2_S32768x256_1_01_01_1.window (ix2 n d) 0 = 0 := rfl
  have w1 : scatter_S16x4096x256_S32768x2_S32768x256_1_01_01_1.window (ix2 n d) 1 = 0 := rfl
  have w2 : scatter_S16x4096x256_S32768x2_S32768x256_1_01_01_1.window (ix2 n d) 2 = d.val := rfl
  rw [resultIdx?_eq_some, Fin.ext_iff]
  constructor
  · intro h
    have a0 : _ = ((b.val : ℕ) : ℤ) := h 0
    have a1 : _ = ((p.val : ℕ) : ℤ) := h 1
    have a2 : _ = ((d'.val : ℕ) : ℤ) := h 2
    rw [h0, w0] at a0; rw [h1, w1] at a1; rw [h2, w2] at a2
    omega
  · rintro ⟨e0, e1, e2⟩ a
    match a with
    | ⟨0, _⟩ => show _ = ((b.val : ℕ) : ℤ); erw [h0, w0]; omega
    | ⟨1, _⟩ => show _ = ((p.val : ℕ) : ℤ); erw [h1, w1]; omega
    | ⟨2, _⟩ => show _ = ((d'.val : ℕ) : ℤ); erw [h2, w2]; omega

/-- Update `n` of the padding mask lands at `(b, p)` exactly when its two index words, read signed, are `b` and `p`. -/
theorem lands_mask (idx : IVec S32768x2 32) (n : Fin 32768) (b : Fin 16) (p : Fin 4096) :
    scatter_S16x4096_S32768x2_S32768_n_01_01_1.resultIdx? (ix1 n) idx = some (ix2 b p)
      ↔ (idx (ix2 n 0)).toInt = b.val ∧ (idx (ix2 n 1)).toInt = p.val := by
  have h0 : scatter_S16x4096_S32768x2_S32768_n_01_01_1.start (ix1 n) idx 0 = (idx (ix2 n 0)).toInt := by
    unfold ScatterDims.start
    refine (dif_pos (List.mem_cons.2 (.inl rfl))).trans ?_
    refine congrArg (fun j => (idx j).toInt) (funext fun a => ?_)
    match a with
    | ⟨0, _⟩ => rfl
    | ⟨1, _⟩ => rfl
  have h1 : scatter_S16x4096_S32768x2_S32768_n_01_01_1.start (ix1 n) idx 1 = (idx (ix2 n 1)).toInt := by
    unfold ScatterDims.start
    refine (dif_pos (List.mem_cons.2 (.inr (List.mem_singleton.2 rfl)))).trans ?_
    refine congrArg (fun j => (idx j).toInt) (funext fun a => ?_)
    match a with
    | ⟨0, _⟩ => rfl
    | ⟨1, _⟩ => rfl
  have w0 : scatter_S16x4096_S32768x2_S32768_n_01_01_1.window (ix1 n) 0 = 0 := rfl
  have w1 : scatter_S16x4096_S32768x2_S32768_n_01_01_1.window (ix1 n) 1 = 0 := rfl
  rw [resultIdx?_eq_some]
  constructor
  · intro h
    have a0 : _ = ((b.val : ℕ) : ℤ) := h 0
    have a1 : _ = ((p.val : ℕ) : ℤ) := h 1
    rw [h0, w0] at a0; rw [h1, w1] at a1
    omega
  · rintro ⟨e0, e1⟩ a
    match a with
    | ⟨0, _⟩ => show _ = ((b.val : ℕ) : ℤ); erw [h0, w0]; omega
    | ⟨1, _⟩ => show _ = ((p.val : ℕ) : ℤ); erw [h1, w1]; omega

end Cert.Keys

end
-- ==== Proof.Ragged.lean ====
module

public import Mathlib.Algebra.BigOperators.Fin
public import Mathlib.Data.Fintype.BigOperators
public import Mathlib.Order.Interval.Finset.Fin
public import Mathlib.Data.Fintype.Card

@[expose] public section

/-! A ragged batch laid out in order: the tokens before a segment, and the slot of each token inside its segment. -/

namespace Cert.Keys

variable {N : ℕ}

/-- The number of tokens of segment `b`. -/
def tokens (s : Fin N → ℕ) (b : ℕ) : ℕ := (Finset.univ.filter fun n => s n = b).card

/-- The number of tokens of the segments before `b`. -/
def before (s : Fin N → ℕ) (b : ℕ) : ℕ := (Finset.univ.filter fun n => s n < b).card

/-- The tokens before a segment are those of the earlier segments, counted one segment at a time. -/
theorem sum_tokens (s : Fin N → ℕ) (b : ℕ) : ((List.range b).map (tokens s)).sum = before s b := by
  induction b with
  | zero => simp [before]
  | succ b ih =>
    rw [List.range_succ, List.map_append, List.sum_append, ih]
    simp only [List.map_cons, List.map_nil, List.sum_cons, List.sum_nil, add_zero]
    unfold before tokens
    rw [← Finset.card_union_of_disjoint]
    · refine congrArg Finset.card (Finset.ext fun n => ?_)
      simp only [Finset.mem_union, Finset.mem_filter, Finset.mem_univ, true_and]
      omega
    · refine Finset.disjoint_filter.2 fun n _ h => ?_
      omega

/-- In an ordered batch the tokens before a token's segment come before the token. -/
theorem before_le (s : Fin N → ℕ) (hs : ∀ i j, i ≤ j → s i ≤ s j) (n : Fin N) : before s (s n) ≤ n.val := by
  unfold before
  refine le_of_le_of_eq (Finset.card_le_card (t := Finset.Iio n) fun i hi => ?_) (Fin.card_Iio n)
  have hi := (Finset.mem_filter.1 hi).2
  rw [Finset.mem_Iio]
  by_contra h
  exact absurd (hs n i (not_lt.1 h)) (by omega)

/-- In an ordered batch whose segments have at most `L` tokens, a token lies less than `L` after the start of its segment. -/
theorem lt_before_add (s : Fin N → ℕ) (L : ℕ) (hL : 0 < L) (hs : ∀ i j, i ≤ j → s i ≤ s j) (hf : ∀ i j : Fin N, i.val + L = j.val → s i ≠ s j)
    (n : Fin N) : n.val < before s (s n) + L := by
  by_contra h
  have hn := n.isLt
  have key : ∀ i : Fin N, i.val + L = n.val → False := fun i hi => by
    have h1 := hs i n (Fin.le_def.2 (by omega))
    have h2 := hf i n hi
    have h3 : (Finset.Iic i).card ≤ before s (s n) := Finset.card_le_card fun k hk => by
      have := hs k i (Finset.mem_Iic.1 hk)
      exact Finset.mem_filter.2 ⟨Finset.mem_univ _, by omega⟩
    rw [Fin.card_Iic] at h3
    omega
  exact key ⟨n.val - L, by omega⟩ (by show n.val - L + L = n.val; omega)

/-- A sum over slots, where slot `pos n` holds token `n`'s term and the slots of no token hold zero, is the sum over the tokens. -/
theorem sum_slots {M : ℕ} {β : Type} [AddCommMonoid β] (P : Fin N → Prop) [DecidablePred P] (pos : Fin N → Fin M) (f : Fin N → β) (G : Fin M → β)
    (inj : ∀ n n', P n → P n' → pos n = pos n' → n = n') (hit : ∀ n, P n → G (pos n) = f n) (miss : ∀ p, (∀ n, P n → pos n ≠ p) → G p = 0) :
    ∑ p, G p = ∑ n, if P n then f n else 0 := by
  rw [← Finset.sum_filter]
  refine (Finset.sum_of_injOn pos (fun n hn n' hn' h => ?_) (fun _ _ => Finset.mem_univ _) (fun p _ hp => ?_) fun n hn => ?_).symm
  · exact inj n n' (Finset.mem_filter.1 hn).2 (Finset.mem_filter.1 hn').2 h
  · exact miss p fun n hn e => hp ⟨n, Finset.mem_coe.2 (Finset.mem_filter.2 ⟨Finset.mem_univ _, hn⟩), e⟩
  · exact (hit n (Finset.mem_filter.1 hn).2).symm

end Cert.Keys

end
-- ==== Proof.RefValue.lean ====
module

public import proofs.«01_k».proof.Proof.RefDefs
public import proofs.«01_k».proof.Proof.Landing
public import proofs.«01_k».proof.Proof.Ragged

@[expose] public section

set_option maxRecDepth 16384

noncomputable section

/-! The reference's results entry by entry, over a batch of ordered segments that fit. -/

namespace Cert.Keys

open Idealize.ShloMosaic Idealize.ShloMosaic.TcCoe Idealize.SL.Sem Idealize.ShloMosaic.Routing
open Cert.ReferenceIdeal Cert.ReferenceIdeal.Gen

/-- The segment number of a token. -/
def seg (ids : IVec S32768 32) (n : Fin 32768) : ℕ := (ids (ix1 n)).toNat

/-- An entry of the encoded rows. -/
theorem refFeats_at (X : FVec Ideal S32768x256 .f32) (We : FVec Ideal S256x256 .f32) (be : FVec Ideal S256 .f32) (n : Fin 32768) (d : Fin 256) :
    refFeats X We be (ix2 n d) = ∑ x : Fin 256, X (ix2 n x) * We (ix2 x d) + be (ix1 d) := by
  pointwise [refFeats]

/-- An entry of the weights. -/
theorem refWeights_at (E : FVec Ideal S32768x256 .f32) (Ww : FVec Ideal S256x10 .f32) (bw : FVec Ideal S10 .f32) (n : Fin 32768) (k : Fin 10) :
    refWeights E Ww bw (ix2 n k) = Ideal.div 1 (1 + Ideal.exp (-(∑ x : Fin 256, E (ix2 n x) * Ww (ix2 x k) + bw (ix1 k)))) := by
  pointwise [refWeights]

/-- An entry of the keys. -/
theorem refKeys_at (num : FVec Ideal S16x10x256 .f32) (den : FVec Ideal S16x10 .f32) (b : Fin 16) (k : Fin 10) (d : Fin 256) :
    refKeys num den (ix3 b k d) = Ideal.div (num (ix3 b k d)) (max (den (ix2 b k)) (Ideal.ofBits .f32 0x358637BD#32)) := by
  pointwise [refKeys]

/-- An entry of the mean rows. -/
theorem refPooled_at (P : FVec Ideal S16x4096x256 .f32) (M : FVec Ideal S16x4096 .f32) (b : Fin 16) (d : Fin 256) :
    refPooled P M (ix2 b d) = Ideal.div (∑ p : Fin 4096, P (ix3 b p d) * M (ix2 b p)) (max (∑ p : Fin 4096, M (ix2 b p)) 1) := by
  pointwise [refPooled]

/-- An entry of a query head. -/
theorem refQuery_at (P : FVec Ideal S16x256 .f32) (Wq : FVec Ideal S256x256 .f32) (bq : FVec Ideal S256 .f32) (b : Fin 16) (d : Fin 256) :
    refQuery P Wq bq (ix2 b d) = ∑ x : Fin 256, P (ix2 b x) * Wq (ix2 x d) + bq (ix1 d) := by
  pointwise [refQuery]

/-- A word of the column of ids. -/
theorem idCol_at (ids : IVec S32768 32) (n : Fin 32768) : idCol ids (ix2 n 0) = ids (ix1 n) := by
  pointwise [idCol]

/-- A small word is a segment number exactly when its value is. -/
theorem toInt_eq_iff (w : BitVec 32) (h : w.toNat < 2 ^ 31) (b : ℕ) : w.toInt = (b : ℤ) ↔ w.toNat = b := by
  rw [StableHlo.Predicate.toInt_eq_toNat_of_lt (by omega)]
  exact Nat.cast_inj

/-- An index that is not negative stays. -/
theorem wrapped_at (x : IVec S32768 32) (len : BitVec 32) (n : Fin 32768) (h : (x (ix1 n)).toNat < 2 ^ 31) : wrapped x len (ix1 n) = x (ix1 n) := by
  pointwise [wrapped, words]
  exact wrap_of_lt _ _ h

/-- A scatter that adds: the operand's entry and the updates that land on it. -/
theorem scatterAdd_at {s si su : Shape} {w : ℕ} (D : ScatterDims s si su) (x : FVec Ideal s .f32) (idx : IVec si w) (upd : FVec Ideal su .f32) (i : s.Idx)
    (hx : x i = 0) : Host.scatterAdd D x idx upd i = ∑ j : su.Idx, if D.resultIdx? j idx = some i then upd j else 0 := by
  have h : Host.scatterAdd D x idx upd i = x i + ∑ j ∈ Finset.univ.filter (fun j => D.resultIdx? j idx = some i), upd j :=
    congrFun (Ideal.hostScatterAdd_def D .single x idx upd) i
  rw [h, hx, zero_add, Finset.sum_filter]

/-- The segment sums of the weighted rows. -/
theorem refNum_at (E : FVec Ideal S32768x256 .f32) (W : FVec Ideal S32768x10 .f32) (ids : IVec S32768 32) (hr : ∀ n, seg ids n < 16)
    (b : Fin 16) (k : Fin 10) (d : Fin 256) :
    refNum E W ids (ix3 b k d) = ∑ n : Fin 32768, if seg ids n = b.val then E (ix2 n d) * W (ix2 n k) else 0 := by
  unfold refNum
  refine (scatterAdd_at _ _ _ _ _ (by pointwise)).trans ?_
  refine (sum_idx3 (n0 := 32768) (n1 := 10) (n2 := 256) _).trans (Finset.sum_congr rfl fun n _ => ?_)
  have hn := hr n
  have key : ∀ (k' : Fin 10) (d' : Fin 256), (scatter_S16x10x256_S32768x1_S32768x10x256_12_0_0_1.resultIdx? (ix3 n k' d') (idCol ids) = some (ix3 b k d))
      ↔ (seg ids n = b.val ∧ k' = k ∧ d' = d) := fun k' d' => by
    rw [lands_rows, idCol_at, toInt_eq_iff _ (by unfold seg at hn; omega)]
    rfl
  refine (Finset.sum_congr rfl fun k' _ => Finset.sum_congr rfl fun d' _ => if_congr (key k' d') rfl rfl).trans ?_
  by_cases h : seg ids n = b.val
  · rw [if_pos h]
    refine (Finset.sum_eq_single k (fun k' _ hk => Finset.sum_eq_zero fun d' _ => if_neg fun e => hk e.2.1) (fun e => absurd (Finset.mem_univ _) e)).trans ?_
    refine (Finset.sum_eq_single d (fun d' _ hd => if_neg fun e => hd e.2.2) (fun e => absurd (Finset.mem_univ _) e)).trans ?_
    rw [if_pos ⟨h, rfl, rfl⟩]
    pointwise
  · rw [if_neg h]
    exact Finset.sum_eq_zero fun k' _ => Finset.sum_eq_zero fun d' _ => if_neg fun e => h e.1

/-- The segment sums of the weights. -/
theorem refDen_at (W : FVec Ideal S32768x10 .f32) (ids : IVec S32768 32) (hr : ∀ n, seg ids n < 16) (b : Fin 16) (k : Fin 10) :
    refDen W ids (ix2 b k) = ∑ n : Fin 32768, if seg ids n = b.val then W (ix2 n k) else 0 := by
  unfold refDen
  refine (scatterAdd_at _ _ _ _ _ (by pointwise)).trans ?_
  refine (sum_idx2 (n0 := 32768) (n1 := 10) _).trans (Finset.sum_congr rfl fun n _ => ?_)
  have hn := hr n
  have key : ∀ k' : Fin 10, (scatter_S16x10_S32768x1_S32768x10_1_0_0_1.resultIdx? (ix2 n k') (idCol ids) = some (ix2 b k))
      ↔ (seg ids n = b.val ∧ k' = k) := fun k' => by
    rw [lands_weights, idCol_at, toInt_eq_iff _ (by unfold seg at hn; omega)]
    rfl
  refine (Finset.sum_congr rfl fun k' _ => if_congr (key k') rfl rfl).trans ?_
  by_cases h : seg ids n = b.val
  · rw [if_pos h]
    refine (Finset.sum_eq_single k (fun k' _ hk => if_neg fun e => hk e.2) (fun e => absurd (Finset.mem_univ _) e)).trans ?_
    rw [if_pos ⟨h, rfl⟩]
  · rw [if_neg h]
    exact Finset.sum_eq_zero fun k' _ => if_neg fun e => h e.1

/-- An id in range, raised to zero, stays. -/
theorem raised_at (ids : IVec S32768 32) (hr : ∀ n, seg ids n < 16) (n : Fin 32768) : raised ids (ix1 n) = ids (ix1 n) := by
  have hn := hr n
  unfold seg at hn
  unfold raised
  pointwise
  show IntOp.maxsi 0#32 (ids (ix1 n)) = _
  generalize ids (ix1 n) = w at hn
  have e := StableHlo.Predicate.toInt_eq_toNat_of_lt (a := w) (by omega)
  refine if_neg fun hw => ?_
  have hw := BitVec.slt_iff_toInt_lt.1 hw
  rw [e] at hw
  exact absurd hw (by simp)

/-- Adding one at every hit counts the hits. -/
theorem foldl_hits {α : Type} (P : α → Prop) [DecidablePred P] (u : α → BitVec 32) (hu : ∀ n, u n = 1#32) (l : List α) (z : ℕ) :
    l.foldl (fun a n => if P n then IntOp.addi a (u n) else a) (BitVec.ofNat 32 z) = BitVec.ofNat 32 (z + l.countP fun n => decide (P n)) := by
  induction l generalizing z with
  | nil => rfl
  | cons n l ih =>
    rw [List.foldl_cons, List.countP_cons, hu n]
    by_cases h : P n
    · rw [if_pos h, if_pos (decide_eq_true h)]
      have e : IntOp.addi (BitVec.ofNat 32 z) 1#32 = BitVec.ofNat 32 (z + 1) := (BitVec.ofNat_add z 1).symm
      rw [e, ih]
      exact congrArg (BitVec.ofNat 32) (by omega)
    · rw [if_neg h, if_neg (by simpa using h), ih]
      rfl

/-- The hits of a list of all numbers below `N` are as many as the numbers hit. -/
theorem countP_card {N : ℕ} (P : Fin N → Prop) [DecidablePred P] : ((List.finRange N).countP fun n => decide (P n)) = (Finset.univ.filter P).card :=
  List.countP_eq_length_filter

/-- The count of a segment. -/
theorem refCounts_at (ids : IVec S32768 32) (hr : ∀ n, seg ids n < 16) (b : Fin 16) : refCounts ids (ix1 b) = BitVec.ofNat 32 (tokens (seg ids) b.val) := by
  unfold refCounts
  rw [scatter_at]
  have key : ∀ n : Fin 32768, (scatter_S16_S32768x1_S32768_n_0_0_1.resultIdx? (ix1 n) (idCol (wrapped (raised ids) 16#32)) = some (ix1 b)) ↔ seg ids n = b.val := fun n => by
    have hn := hr n
    unfold seg at hn
    rw [lands_count, idCol_at, wrapped_at _ _ _ (by rw [raised_at ids hr]; omega), raised_at ids hr, toInt_eq_iff _ (by omega)]
    rfl
  refine (foldl_hits (fun n => scatter_S16_S32768x1_S32768_n_0_0_1.resultIdx? (S32768.rowMajor.symm n) (idCol (wrapped (raised ids) 16#32)) = some (ix1 b))
    (fun n => words 1#32 (S32768.rowMajor.symm n)) (fun n => rfl) _ 0).trans (congrArg (BitVec.ofNat 32) ?_)
  rw [countP_card, zero_add]
  unfold tokens
  rw [Finset.card_filter, Finset.card_filter]
  refine (Equiv.sum_comp S32768.rowMajor.symm (fun i : S32768.Idx => if scatter_S16_S32768x1_S32768_n_0_0_1.resultIdx? i (idCol (wrapped (raised ids) 16#32)) = some (ix1 b) then 1 else 0)).trans ?_
  refine (sum_idx1 (n0 := 32768) _).trans (Finset.sum_congr rfl fun n _ => ?_)
  exact if_congr (key n) rfl rfl

/-- The first token of a segment. -/
theorem refOffsets_at (ids : IVec S32768 32) (hr : ∀ n, seg ids n < 16) (b : Fin 16) :
    refOffsets (refCounts ids) (ix1 b) = BitVec.ofNat 32 (before (seg ids) b.val) := by
  have h : refOffsets (refCounts ids) (ix1 b) = if h : b.val < 1 then 0#32 else refCumsum (refCounts ids) (ix1 (⟨b.val - 1, by omega⟩ : Fin 16)) := by
    pointwise [refOffsets]
  rw [h]
  by_cases h1 : b.val < 1
  · rw [dif_pos h1, ← sum_tokens, show b.val = 0 by omega]
    rfl
  · rw [dif_neg h1, ← sum_tokens]
    unfold refCumsum
    refine (cumsum1 (N := 16) (Nm1 := 15) rfl (refCounts ids) (tokens (seg ids)) (fun i => refCounts_at ids hr i) _ rfl _ _ (⟨b.val - 1, by omega⟩ : Fin 16)).trans ?_
    rw [show b.val - 1 + 1 = b.val by omega]

/-- The slot of a token: its distance from the first token of its segment. -/
def slot (ids : IVec S32768 32) (n : Fin 32768) : ℕ := n.val - before (seg ids) (seg ids n)

/-- A batch of ordered segments that fit: the ids in range, in order, and no id at two tokens 4096 apart. -/
structure Ragged (ids : IVec S32768 32) : Prop where
  /-- The ids are in range. -/
  range : ∀ n, seg ids n < 16
  /-- The ids are in order. -/
  order : ∀ i j, i ≤ j → seg ids i ≤ seg ids j
  /-- The segments fit. -/
  fits : ∀ i j : Fin 32768, i.val + 4096 = j.val → seg ids i ≠ seg ids j

/-- The word of a token's slot. -/
theorem refPos_at (ids : IVec S32768 32) (h : Ragged ids) (n : Fin 32768) : refPos ids (ix1 n) = BitVec.ofNat 32 (slot ids n) := by
  have hn := h.range n
  have e : refPos ids (ix1 n) = IntOp.subi (BitVec.ofNat 32 n.val)
      (Host.gather gather_S16_S32768x1_S32768_n_0_n_n_0_1_1 (refOffsets (refCounts ids)) (idCol (wrapped ids 16#32)) (ix1 n)) := rfl
  have hb : idCol (wrapped ids 16#32) (ix2 n 0) = BitVec.ofNat 32 (⟨seg ids n, hn⟩ : Fin 16).val := by
    rw [idCol_at, wrapped_at _ _ _ (by unfold seg at hn; omega)]
    show _ = BitVec.ofNat 32 (ids (ix1 n)).toNat
    rw [BitVec.ofNat_toNat, BitVec.setWidth_eq]
  have g := gather_take1 gather_S16_S32768x1_S32768_n_0_n_n_0_1_1 rfl rfl rfl rfl (refOffsets (refCounts ids)) _ n (⟨seg ids n, hn⟩ : Fin 16) hb (by omega)
  have hle := before_le (seg ids) h.order n
  rw [e]
  refine (congrArg (IntOp.subi _) (g.trans (refOffsets_at ids h.range _))).trans ?_
  show BitVec.ofNat 32 n.val - BitVec.ofNat 32 (before (seg ids) (seg ids n)) = BitVec.ofNat 32 (slot ids n)
  unfold slot
  refine BitVec.eq_of_toNat_eq ?_
  have := n.isLt
  rw [BitVec.toNat_sub, BitVec.toNat_ofNat, BitVec.toNat_ofNat, BitVec.toNat_ofNat]
  omega

/-- A token's slot is one of the 4096 of its segment. -/
theorem slot_lt (ids : IVec S32768 32) (h : Ragged ids) (n : Fin 32768) : slot ids n < 4096 := by
  have h1 := before_le (seg ids) h.order n
  have h2 := lt_before_add (seg ids) 4096 (by omega) h.order h.fits n
  unfold slot
  omega

/-- A token's slot, as a number below 4096. -/
def slotAt (ids : IVec S32768 32) (h : Ragged ids) (n : Fin 32768) : Fin 4096 := ⟨slot ids n, slot_lt ids h n⟩

/-- The value of a token's slot. -/
theorem slotAt_val (ids : IVec S32768 32) (h : Ragged ids) (n : Fin 32768) : (slotAt ids h n).val = slot ids n := rfl

/-- Two tokens of one segment in one slot are the same. -/
theorem slot_inj (ids : IVec S32768 32) (h : Ragged ids) (n n' : Fin 32768) (hs : seg ids n = seg ids n') (hp : slot ids n = slot ids n') : n = n' := by
  have h1 := before_le (seg ids) h.order n
  have h2 := before_le (seg ids) h.order n'
  unfold slot at hp
  rw [hs] at hp h1
  exact Fin.ext (by omega)

/-- The segment word of a token's pair. -/
theorem refPairs_seg (ids : IVec S32768 32) (h : Ragged ids) (n : Fin 32768) (b : ℕ) : (refPairs ids (ix2 n 0)).toInt = (b : ℤ) ↔ seg ids n = b := by
  have hn := h.range n
  have e : refPairs ids (ix2 n 0) = wrapped ids 16#32 (ix1 n) := by pointwise [refPairs, idCol]
  rw [e, wrapped_at _ _ _ (by unfold seg at hn; omega), toInt_eq_iff _ (by unfold seg at hn; omega)]
  rfl

/-- The slot word of a token's pair. -/
theorem refPairs_slot (ids : IVec S32768 32) (h : Ragged ids) (n : Fin 32768) (p : ℕ) : (refPairs ids (ix2 n 1)).toInt = (p : ℤ) ↔ slot ids n = p := by
  have hn := slot_lt ids h n
  have e : refPairs ids (ix2 n 1) = wrapped (refPos ids) 4096#32 (ix1 n) := by pointwise [refPairs, idCol]
  have t : (BitVec.ofNat 32 (slot ids n)).toNat = slot ids n := by rw [BitVec.toNat_ofNat]; omega
  rw [e, wrapped_at _ _ _ (by rw [refPos_at ids h, t]; omega), refPos_at ids h, toInt_eq_iff _ (by rw [t]; omega), t]

/-- A slot that a token fills holds the token's row. -/
theorem refPadded_hit (E : FVec Ideal S32768x256 .f32) (ids : IVec S32768 32) (h : Ragged ids) (n : Fin 32768) (b : Fin 16) (p : Fin 4096) (d : Fin 256)
    (hb : seg ids n = b.val) (hp : slot ids n = p.val) : refPadded E (refPairs ids) (ix3 b p d) = E (ix2 n d) := by
  unfold refPadded
  refine scatter_set_hit _ _ _ _ _ _ (fun k hk => ?_) (ix2 n d) ((lands_padded _ _ _ _ _ _).2 ⟨(refPairs_seg ids h n _).2 hb, (refPairs_slot ids h n _).2 hp, rfl⟩)
  obtain ⟨n', d', rfl⟩ : ∃ (n' : Fin 32768) (d' : Fin 256), k = ix2 n' d' := ⟨k 0, k 1, (ix2_eta k).symm⟩
  have e := (lands_padded _ _ _ _ _ _).1 hk
  have e1 := (refPairs_seg ids h n' _).1 e.1
  have e2 := (refPairs_slot ids h n' _).1 e.2.1
  rw [slot_inj ids h n' n (e1.trans hb.symm) (e2.trans hp.symm), e.2.2]

/-- The mask is one at a slot that a token fills. -/
theorem refMask_hit (ids : IVec S32768 32) (h : Ragged ids) (n : Fin 32768) (b : Fin 16) (p : Fin 4096)
    (hb : seg ids n = b.val) (hp : slot ids n = p.val) : refMask (refPairs ids) (ix2 b p) = 1 := by
  unfold refMask
  refine scatter_set_hit _ _ _ _ _ _ (fun k hk => ?_) (ix1 n) ((lands_mask _ _ _ _).2 ⟨(refPairs_seg ids h n _).2 hb, (refPairs_slot ids h n _).2 hp⟩)
  rw [← ix1_eta k]
  pointwise

/-- The mask is zero at a slot that no token fills. -/
theorem refMask_miss (ids : IVec S32768 32) (h : Ragged ids) (b : Fin 16) (p : Fin 4096)
    (hp : ∀ n, seg ids n = b.val → slot ids n ≠ p.val) : refMask (refPairs ids) (ix2 b p) = 0 := by
  unfold refMask
  refine (scatter_set_miss _ _ _ _ _ fun k hk => ?_).trans (by pointwise)
  obtain ⟨n, rfl⟩ : ∃ n : Fin 32768, k = ix1 n := ⟨k 0, (ix1_eta k).symm⟩
  have e := (lands_mask _ _ _ _).1 hk
  exact hp n ((refPairs_seg ids h n _).1 e.1) ((refPairs_slot ids h n _).1 e.2)

/-- The masked rows of a segment sum to its tokens' rows. -/
theorem sum_padded (E : FVec Ideal S32768x256 .f32) (ids : IVec S32768 32) (h : Ragged ids) (b : Fin 16) (d : Fin 256) :
    ∑ p : Fin 4096, refPadded E (refPairs ids) (ix3 b p d) * refMask (refPairs ids) (ix2 b p)
      = ∑ n : Fin 32768, if seg ids n = b.val then E (ix2 n d) else 0 := by
  refine sum_slots (fun n => seg ids n = b.val) (slotAt ids h) (fun n => E (ix2 n d)) _ (fun n n' hn hn' e => ?_) (fun n hn => ?_) (fun p hp => ?_)
  · exact slot_inj ids h n n' (hn.trans hn'.symm) (by rw [← slotAt_val ids h, e, slotAt_val])
  · rw [refPadded_hit E ids h n b _ d hn (slotAt_val ids h n).symm, refMask_hit ids h n b _ hn (slotAt_val ids h n).symm]
    exact mul_one (E (ix2 n d) : EReal)
  · rw [refMask_miss ids h b p fun n hn e => hp n hn (Fin.ext ((slotAt_val ids h n).trans e))]
    exact mul_zero (_ : EReal)

/-- The mask of a segment sums to its number of tokens. -/
theorem sum_mask (ids : IVec S32768 32) (h : Ragged ids) (b : Fin 16) :
    ∑ p : Fin 4096, refMask (refPairs ids) (ix2 b p) = ∑ n : Fin 32768, if seg ids n = b.val then (1 : EReal) else 0 := by
  refine sum_slots (fun n => seg ids n = b.val) (slotAt ids h) (fun n => (1 : EReal)) _ (fun n n' hn hn' e => ?_) (fun n hn => ?_) (fun p hp => ?_)
  · exact slot_inj ids h n n' (hn.trans hn'.symm) (by rw [← slotAt_val ids h, e, slotAt_val])
  · exact refMask_hit ids h n b _ hn (slotAt_val ids h n).symm
  · exact refMask_miss ids h b p fun n hn e => hp n hn (Fin.ext ((slotAt_val ids h n).trans e))

end Cert.Keys

end
-- ==== Proof.Blocks.lean ====
module

public import proofs.«01_k».proof.Proof.Steps
public import proofs.«01_k».proof.Proof.RefValue
public import Idealize.ShloMosaic.Lib.Claim

@[expose] public section

set_option maxRecDepth 16384

noncomputable section

/-! The blocks a grid point reads, as entries of the argument arrays. -/

namespace Cert.Keys

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The features. -/
def argX : FVec Ideal S32768x256 .f32 := m ((c : Thread nD τ).loc main_arg0)

/-- The encoder's matrix. -/
def argWe : FVec Ideal S256x256 .f32 := m ((c : Thread nD τ).loc main_arg1)

/-- The encoder's bias. -/
def argBe : FVec Ideal S256 .f32 := m ((c : Thread nD τ).loc main_arg2)

/-- The weights' matrix. -/
def argWw : FVec Ideal S256x10 .f32 := m ((c : Thread nD τ).loc main_arg3)

/-- The weights' bias. -/
def argBw : FVec Ideal S10 .f32 := m ((c : Thread nD τ).loc main_arg4)

/-- The first query head's matrix. -/
def argWq1 : FVec Ideal S256x256 .f32 := m ((c : Thread nD τ).loc main_arg5)

/-- The first query head's bias. -/
def argBq1 : FVec Ideal S256 .f32 := m ((c : Thread nD τ).loc main_arg6)

/-- The second query head's matrix. -/
def argWq2 : FVec Ideal S256x256 .f32 := m ((c : Thread nD τ).loc main_arg7)

/-- The second query head's bias. -/
def argBq2 : FVec Ideal S256 .f32 := m ((c : Thread nD τ).loc main_arg8)

/-- The segment ids. -/
def argIds : IVec S32768 32 := m ((c : Thread nD τ).loc main_arg9)

/-- The block every window reads or writes at a grid point. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] :=
  (by decide +kernel : ∀ t : Fin grid0.N, _)

/-- The token a row of a grid point's tile holds. -/
def tok (t : Fin cfg0.N) (x : Fin 8192) : Fin 32768 :=
  ⟨8192 * t.val + x.val, by have := lt_of_lt_of_eq t.isLt (show cfg0.N = 4 from N_0); omega⟩

/-- A row of the features' block. -/
theorem blk0_at (t : Fin cfg0.N) (x : Fin 8192) (d : Fin 256) : iblk m c 0 t (ix2 x d) = argX m c (ix2 (tok t x) d) := by
  unfold argX tok
  blk_ext [iblk, V, idx t]

/-- The encoder's matrix is whole at every point. -/
theorem blk2_at (t : Fin cfg0.N) (x d : Fin 256) : iblk m c 2 t (ix2 x d) = argWe m c (ix2 x d) := by
  unfold argWe
  blk_ext [iblk, V, idx t]

/-- The weights' matrix is whole at every point. -/
theorem blk4_at (t : Fin cfg0.N) (x : Fin 256) (k : Fin 10) : iblk m c 4 t (ix2 x k) = argWw m c (ix2 x k) := by
  unfold argWw
  blk_ext [iblk, V, idx t]

/-- The first query head's matrix is whole at every point. -/
theorem blk6_at (t : Fin cfg0.N) (x d : Fin 256) : iblk m c 6 t (ix2 x d) = argWq1 m c (ix2 x d) := by
  unfold argWq1
  blk_ext [iblk, V, idx t]

/-- The second query head's matrix is whole at every point. -/
theorem blk8_at (t : Fin cfg0.N) (x d : Fin 256) : iblk m c 8 t (ix2 x d) = argWq2 m c (ix2 x d) := by
  unfold argWq2
  blk_ext [iblk, V, idx t]

/-- The ids enter as one column. -/
theorem entry_ids : V m c main_call0_v0 = shapeCast S32768x1 (argIds m c) shapeCasts_S32768_S32768x1 := by
  entry_read
  rfl

/-- An id of a grid point's block. -/
theorem blk1_at (t : Fin cfg0.N) (x : Fin 8192) : iblk m c 1 t (ix2 x 0) = argIds m c (ix1 (tok t x)) := by
  have e : iblk m c 1 t (ix2 x 0) = V m c main_call0_v0 (ix2 (tok t x) 0) := by
    unfold tok
    blk_ext [iblk, idx t]
  rw [e, entry_ids]
  pointwise

/-- The encoder's bias enters as one row. -/
theorem entry_be : V m c main_call0_v1 = shapeCast S1x256 (argBe m c) shapeCasts_S256_S1x256 := by
  entry_read
  rfl

/-- The encoder's bias is whole at every point. -/
theorem blk3_at (t : Fin cfg0.N) (d : Fin 256) : iblk m c 3 t (ix2 0 d) = argBe m c (ix1 d) := by
  have e : iblk m c 3 t (ix2 0 d) = V m c main_call0_v1 (ix2 0 d) := by blk_ext [iblk, idx t]
  rw [e, entry_be]
  pointwise

/-- The weights' bias enters as one row. -/
theorem entry_bw : V m c main_call0_v2 = shapeCast S1x10 (argBw m c) shapeCasts_S10_S1x10 := by
  entry_read
  rfl

/-- The weights' bias is whole at every point. -/
theorem blk5_at (t : Fin cfg0.N) (d : Fin 10) : iblk m c 5 t (ix2 0 d) = argBw m c (ix1 d) := by
  have e : iblk m c 5 t (ix2 0 d) = V m c main_call0_v2 (ix2 0 d) := by blk_ext [iblk, idx t]
  rw [e, entry_bw]
  pointwise

/-- The first query head's bias enters as one row. -/
theorem entry_bq1 : V m c main_call0_v3 = shapeCast S1x256 (argBq1 m c) shapeCasts_S256_S1x256 := by
  entry_read
  rfl

/-- The first query head's bias is whole at every point. -/
theorem blk7_at (t : Fin cfg0.N) (d : Fin 256) : iblk m c 7 t (ix2 0 d) = argBq1 m c (ix1 d) := by
  have e : iblk m c 7 t (ix2 0 d) = V m c main_call0_v3 (ix2 0 d) := by blk_ext [iblk, idx t]
  rw [e, entry_bq1]
  pointwise

/-- The second query head's bias enters as one row. -/
theorem entry_bq2 : V m c main_call0_v4 = shapeCast S1x256 (argBq2 m c) shapeCasts_S256_S1x256 := by
  entry_read
  rfl

/-- The second query head's bias is whole at every point. -/
theorem blk9_at (t : Fin cfg0.N) (d : Fin 256) : iblk m c 9 t (ix2 0 d) = argBq2 m c (ix1 d) := by
  have e : iblk m c 9 t (ix2 0 d) = V m c main_call0_v4 (ix2 0 d) := by blk_ext [iblk, idx t]
  rw [e, entry_bq2]
  pointwise

end Cert.Keys

end
-- ==== Proof.Sums.lean ====
module

public import proofs.«01_k».proof.Proof.Blocks

@[expose] public section

set_option maxRecDepth 16384

noncomputable section

/-! What the two accumulators hold after the last grid point: sums over all the tokens. -/

namespace Cert.Keys

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The encoded rows. -/
def feats : FVec Ideal S32768x256 .f32 := refFeats (argX m c) (argWe m c) (argBe m c)

/-- The weights. -/
def weights : FVec Ideal Cert.ReferenceIdeal.S32768x10 .f32 := refWeights (feats m c) (argWw m c) (argBw m c)

/-- An encoded row of a tile is the token's. -/
theorem tileFeats_at (t : Fin cfg0.N) (x : Fin 8192) (d : Fin 256) : tileFeats m c t (ix2 x d) = feats m c (ix2 (tok t x) d) := by
  unfold tileFeats feats
  rw [pay12_at, refFeats_at, blk3_at]
  refine congrArg (fun q : EReal => q + (argBe m c (ix1 d) : EReal)) (Finset.sum_congr rfl fun y _ => ?_)
  rw [blk0_at, blk2_at]

/-- A weight of a tile is the token's. -/
theorem tileWeights_at (t : Fin cfg0.N) (x : Fin 8192) (k : Fin 10) : tileWeights m c t (ix2 x k) = weights m c (ix2 (tok t x) k) := by
  unfold tileWeights weights
  rw [pay13_at, refWeights_at, blk5_at]
  refine congrArg (fun q : EReal => Ideal.div 1 (1 + Ideal.exp (-(q + (argBw m c (ix1 k) : EReal))))) (Finset.sum_congr rfl fun y _ => ?_)
  rw [blk4_at]
  exact congrArg (fun q : EReal => q * (argWw m c (ix2 y k) : EReal)) (tileFeats_at m c t x y)

/-- An id of a tile is the token's. -/
theorem tileIds_at (t : Fin cfg0.N) (x : Fin 8192) : (tileIds m c t (ix2 x 0)).toNat = seg (argIds m c) (tok t x) := by
  have e : tileIds m c t (ix2 x 0) = iblk m c 1 t (ix2 x 0) := by pointwise [tileIds, k0_pay14]
  rw [e, blk1_at]
  rfl

/-- A sum over the tiles and their rows is one over the tokens. -/
theorem sum_tok (g : Fin 32768 → EReal) : ∑ t : Fin cfg0.N, ∑ x : Fin 8192, g (tok t x) = ∑ n : Fin 32768, g n := by
  refine Fin.sum_mul_add_congr (S := cfg0.N) (fun t x h => ?_) (by rw [show cfg0.N = 4 from N_0])
  exact congrArg g (Fin.ext (congrArg (· + x.val) (Nat.mul_comm 8192 t.val)))

/-- A grid point adds its tile's rows to the row sums. -/
theorem numStep_at (t : Fin cfg0.N) (acc : FVec Ideal S176x256 .f32) (j : Fin 176) (d : Fin 256) :
    numStep m c t acc (ix2 j d)
      = acc (ix2 j d) + ∑ x : Fin 8192, tileMask (tileIds m c t) (tileWeights m c t) (ix2 x j) * tileFeats m c t (ix2 x d) :=
  pay2_at _ _ _ _ _ _ _

/-- A grid point adds its tile's weights to the weight sums. -/
theorem denStep_at (t : Fin cfg0.N) (acc : FVec Ideal S1x176 .f32) (j : Fin 176) :
    denStep m c t acc (ix2 0 j) = acc (ix2 0 j) + ∑ x : Fin 8192, tileMask (tileIds m c t) (tileWeights m c t) (ix2 x j) :=
  pay3_at _ _ _ _ _

/-- The row sums after the last point, over the tiles. -/
theorem num_sum (t : Fin cfg0.N) (ht : t.val + 1 = cfg0.N) (j : Fin 176) (d : Fin 256) :
    numOut m c t.val t.isLt (ix2 j d)
      = ∑ p : Fin cfg0.N, ∑ x : Fin 8192, tileMask (tileIds m c p) (tileWeights m c p) (ix2 x j) * tileFeats m c p (ix2 x d) := by
  have h := Pipeline.eq_sum_fin_of_reset_step_apply_last (M := EReal) (fun n h (i : Fin 176 × Fin 256) => numOut m c n h (ix2 i.1 i.2)) 4 (fun _ => 0)
    (fun p i => ∑ x : Fin 8192, tileMask (tileIds m c p) (tileWeights m c p) (ix2 x i.1) * tileFeats m c p (ix2 x i.2))
    (fun t h i => by rw [num_first m c t h, numStep_at, pay8_at])
    (fun t h i => by rw [num_step m c t h, numStep_at])
    (le_of_eq N_0) t ht (j, d)
  exact h.trans (zero_add _)

/-- The weight sums after the last point, over the tiles. -/
theorem den_sum (t : Fin cfg0.N) (ht : t.val + 1 = cfg0.N) (j : Fin 176) :
    denOut m c t.val t.isLt (ix2 0 j) = ∑ p : Fin cfg0.N, ∑ x : Fin 8192, tileMask (tileIds m c p) (tileWeights m c p) (ix2 x j) := by
  have h := Pipeline.eq_sum_fin_of_reset_step_apply_last (M := EReal) (fun n h (i : Fin 176) => denOut m c n h (ix2 0 i)) 4 (fun _ => 0)
    (fun p i => ∑ x : Fin 8192, tileMask (tileIds m c p) (tileWeights m c p) (ix2 x i))
    (fun t h i => by rw [den_first m c t h, denStep_at, pay9_at])
    (fun t h i => by rw [den_step m c t h, denStep_at])
    (le_of_eq N_0) t ht j
  exact h.trans (zero_add _)

/-- The row sums at a head's column: the segment's rows, weighted. -/
theorem num_key (t : Fin cfg0.N) (ht : t.val + 1 = cfg0.N) (b : Fin 16) (k : Fin 10) (d : Fin 256) :
    numOut m c t.val t.isLt (ix2 (keyCol b k) d)
      = ∑ n : Fin 32768, if seg (argIds m c) n = b.val then feats m c (ix2 n d) * weights m c (ix2 n k) else (0 : EReal) := by
  rw [num_sum m c t ht, ← sum_tok]
  refine Finset.sum_congr rfl fun p _ => Finset.sum_congr rfl fun x _ => ?_
  rw [tileMask_key, tileIds_at, tileWeights_at, tileFeats_at]
  show (_ : EReal) * (_ : EReal) = _
  rw [ite_mul, zero_mul]
  exact congrArg (fun q : EReal => if seg (argIds m c) (tok p x) = b.val then q else 0) (mul_comm _ _)

/-- The weight sums at a head's column: the segment's weights. -/
theorem den_key (t : Fin cfg0.N) (ht : t.val + 1 = cfg0.N) (b : Fin 16) (k : Fin 10) :
    denOut m c t.val t.isLt (ix2 0 (keyCol b k)) = ∑ n : Fin 32768, if seg (argIds m c) n = b.val then weights m c (ix2 n k) else (0 : EReal) := by
  rw [den_sum m c t ht, ← sum_tok]
  refine Finset.sum_congr rfl fun p _ => Finset.sum_congr rfl fun x _ => ?_
  rw [tileMask_key, tileIds_at, tileWeights_at]

/-- The row sums at a count's column: the segment's rows. -/
theorem num_pool (t : Fin cfg0.N) (ht : t.val + 1 = cfg0.N) (b : Fin 16) (d : Fin 256) :
    numOut m c t.val t.isLt (ix2 (poolCol b) d) = ∑ n : Fin 32768, if seg (argIds m c) n = b.val then feats m c (ix2 n d) else (0 : EReal) := by
  rw [num_sum m c t ht, ← sum_tok]
  refine Finset.sum_congr rfl fun p _ => Finset.sum_congr rfl fun x _ => ?_
  rw [tileMask_pool, tileIds_at, tileFeats_at]
  show (_ : EReal) * (_ : EReal) = _
  rw [ite_mul, zero_mul, one_mul]

/-- The weight sums at a count's column: the number of the segment's tokens. -/
theorem den_pool (t : Fin cfg0.N) (ht : t.val + 1 = cfg0.N) (b : Fin 16) :
    denOut m c t.val t.isLt (ix2 0 (poolCol b)) = ∑ n : Fin 32768, if seg (argIds m c) n = b.val then (1 : EReal) else 0 := by
  rw [den_sum m c t ht, ← sum_tok]
  refine Finset.sum_congr rfl fun p _ => Finset.sum_congr rfl fun x _ => ?_
  rw [tileMask_pool, tileIds_at]

end Cert.Keys

end
-- ==== Proof.Final.lean ====
module

public import proofs.«01_k».proof.Proof.Sums

@[expose] public section

set_option maxRecDepth 16384

noncomputable section

/-! The three arrays the grid leaves, equal to the reference's. -/

namespace Cert.Keys

open Idealize.ShloMosaic Idealize.ShloMosaic.TcCoe Idealize.SL.Sem
open Idealize.ShloMosaic.Pipeline (Dat)
open Cert.KernelIdeal Cert.KernelIdeal.Gen

/-- A head column of the weight sums. -/
theorem keyDen_at (den : FVec Ideal S1x176 .f32) (j : Fin 160) : keyDen den (ix2 0 j) = den (ix2 0 ⟨j.val, by omega⟩) := by
  unfold keyDen
  unfold View.ld
  refine congrArg den ?_
  blk_ext
  all_goals simp [Rect.unit]

/-- A head row of the row sums. -/
theorem keyNum_at (num : FVec Ideal S176x256 .f32) (j : Fin 160) (d : Fin 256) : keyNum num (ix2 j d) = num (ix2 ⟨j.val, by omega⟩ d) := by
  unfold keyNum
  unfold View.ld
  refine congrArg num ?_
  blk_ext
  all_goals simp [Rect.unit]

/-- A count column of the weight sums. -/
theorem poolDen_at (den : FVec Ideal S1x176 .f32) (b : Fin 16) : poolDen den (ix2 0 b) = den (ix2 0 (poolCol b)) := by
  unfold poolDen poolCol
  unfold View.ld
  refine congrArg den ?_
  blk_ext
  all_goals simp [Rect.unit]

/-- A plain row of the row sums. -/
theorem poolNum_at (num : FVec Ideal S176x256 .f32) (b : Fin 16) (d : Fin 256) : poolNum num (ix2 b d) = num (ix2 (poolCol b) d) := by
  unfold poolNum poolCol
  unfold View.ld
  refine congrArg num ?_
  blk_ext
  all_goals simp [Rect.unit]

variable (m : (ℓ : Loc nD τ sig) → Buf (Elt Ideal) ℓ) (c : Dev nD)

/-- The keys, one row per segment and head. -/
def flatKeys : FVec Ideal S160x256 .f32 := k0_pay4 (F := Ideal) (keyDen (denOut m c t0_3.val t0_3.isLt)) (keyNum (numOut m c t0_3.val t0_3.isLt))

/-- The first query head of the grid. -/
def gridQ1 : FVec Ideal S16x256 .f32 :=
  k0_pay6 (F := Ideal) (poolDen (denOut m c t0_3.val t0_3.isLt)) (poolNum (numOut m c t0_3.val t0_3.isLt)) (iblk m c 6 t0_3) (iblk m c 7 t0_3)

/-- The second query head of the grid. -/
def gridQ2 : FVec Ideal S16x256 .f32 :=
  k0_pay7 (F := Ideal) (poolDen (denOut m c t0_3.val t0_3.isLt)) (poolNum (numOut m c t0_3.val t0_3.isLt)) (iblk m c 8 t0_3) (iblk m c 9 t0_3)

/-- The grid leaves the keys in its first array. -/
theorem final_keys : (dats m 0 c).arrAt 10 cfg0.N = flatKeys m c := by
  refine (dats m 0 c).arrAt_eq_of_after_last 10 t0_3 (by decide +kernel) _ fun j => ?_
  blk_simp
  rw [after0_10, keys_last m c t0_3 (by decide) (by decide)]
  rfl

/-- The grid leaves the first query head in its second array. -/
theorem final_q1 : (dats m 0 c).arrAt 11 cfg0.N = gridQ1 m c := by
  refine (dats m 0 c).arrAt_eq_of_after_last 11 t0_3 (by decide +kernel) _ fun j => ?_
  blk_simp
  rw [after0_11, q1_last m c t0_3 (by decide) (by decide)]
  rfl

/-- The grid leaves the second query head in its third array. -/
theorem final_q2 : (dats m 0 c).arrAt 12 cfg0.N = gridQ2 m c := by
  refine (dats m 0 c).arrAt_eq_of_after_last 12 t0_3 (by decide +kernel) _ fun j => ?_
  blk_simp
  rw [after0_12, q2_last m c t0_3 (by decide) (by decide)]
  rfl

/-- The named point is the last. -/
theorem last_point : t0_3.val + 1 = cfg0.N := by rw [show cfg0.N = 4 from N_0]; rfl

/-- An entry of the reference's keys is the grid's. -/
theorem flatKeys_at (hr : ∀ n, seg (argIds m c) n < 16) (b : Fin 16) (k : Fin 10) (d : Fin 256) :
    flatKeys m c (ix2 ⟨10 * b.val + k.val, by omega⟩ d)
      = refKeys (refNum (feats m c) (weights m c) (argIds m c)) (refDen (weights m c) (argIds m c)) (ix3 b k d) := by
  unfold flatKeys
  rw [pay4_at, keyDen_at, keyNum_at, refKeys_at, refNum_at _ _ _ hr, refDen_at _ _ hr]
  have hn := num_key m c t0_3 last_point b k d
  have hd := den_key m c t0_3 last_point b k
  unfold keyCol at hn hd
  rw [hn, hd]

/-- An entry of the grid's mean rows is the reference's. -/
theorem pooled_at (h : Ragged (argIds m c)) (b : Fin 16) (d : Fin 256) :
    k0_pay5 (F := Ideal) (poolDen (denOut m c t0_3.val t0_3.isLt)) (poolNum (numOut m c t0_3.val t0_3.isLt)) (ix2 b d)
      = refPooled (refPadded (feats m c) (refPairs (argIds m c))) (refMask (refPairs (argIds m c))) (ix2 b d) := by
  rw [pay5_at, poolDen_at, poolNum_at, refPooled_at, num_pool m c t0_3 last_point, den_pool m c t0_3 last_point, sum_padded _ _ h, sum_mask _ h]

/-- The grid's first query head is the reference's. -/
theorem gridQ1_eq (h : Ragged (argIds m c)) :
    gridQ1 m c = refQuery (refPooled (refPadded (feats m c) (refPairs (argIds m c))) (refMask (refPairs (argIds m c)))) (argWq1 m c) (argBq1 m c) := by
  funext i
  obtain ⟨b, d, rfl⟩ : ∃ (b : Fin 16) (d : Fin 256), i = ix2 b d := ⟨i 0, i 1, (ix2_eta i).symm⟩
  unfold gridQ1
  rw [pay6_at, refQuery_at, blk7_at]
  refine congrArg (fun q : EReal => q + (argBq1 m c (ix1 d) : EReal)) (Finset.sum_congr rfl fun x _ => ?_)
  rw [pooled_at m c h, blk6_at]

/-- The grid's second query head is the reference's. -/
theorem gridQ2_eq (h : Ragged (argIds m c)) :
    gridQ2 m c = refQuery (refPooled (refPadded (feats m c) (refPairs (argIds m c))) (refMask (refPairs (argIds m c)))) (argWq2 m c) (argBq2 m c) := by
  funext i
  obtain ⟨b, d, rfl⟩ : ∃ (b : Fin 16) (d : Fin 256), i = ix2 b d := ⟨i 0, i 1, (ix2_eta i).symm⟩
  unfold gridQ2
  rw [pay7_at, refQuery_at, blk9_at]
  refine congrArg (fun q : EReal => q + (argBq2 m c (ix1 d) : EReal)) (Finset.sum_congr rfl fun x _ => ?_)
  rw [pooled_at m c h, blk8_at]

/-- The keys, laid out by segment and head, are the reference's. -/
theorem keys_eq (hr : ∀ n, seg (argIds m c) n < 16) :
    shapeCast S16x10x256 (flatKeys m c) shapeCasts_S160x256_S16x10x256
      = refKeys (refNum (feats m c) (weights m c) (argIds m c)) (refDen (weights m c) (argIds m c)) := by
  funext i
  obtain ⟨b, k, d, rfl⟩ : ∃ (b : Fin 16) (k : Fin 10) (d : Fin 256), i = ix3 b k d := ⟨i 0, i 1, i 2, (ix3_eta i).symm⟩
  rw [← flatKeys_at m c hr]
  pointwise
  blk_ext

/-- No two windows share an array. -/
theorem arr_inj : Function.Injective (Pipeline.arrRef spec0) := by decide +kernel

/-- The first result is the keys laid out by segment and head. -/
theorem tail_keys : Pipeline.afterTail₀ cfgs (dats m) 0 (V0 m) [hostOps1] c main_v0_0
    = shapeCast S16x10x256 (flatKeys m c) shapeCasts_S160x256_S16x10x256 := by
  rw [← final_keys]
  unfold Pipeline.afterTail₀
  after_results
  exact congrArg (fun A => shapeCast S16x10x256 A shapeCasts_S160x256_S16x10x256) (Pipeline.withArrays_arr spec0 arr_inj c (V0 m c) (fun w => (dats m 0 c).arrAt w cfg0.N) 10)

end Cert.Keys

end
-- ==== Proof.Precondition.lean ====
module

public import proofs.«01_k».proof.Proof.RefValue
public import proofs.«01_k».proof.Proof.Gen.Pre_ragged
public import Idealize.ShloMosaic.Lib.ReduceAll
public import Idealize.ShloMosaic.Lib.WordCmp

@[expose] public section

set_option maxRecDepth 16384

noncomputable section

/-! What the precondition says of the ids. -/

namespace Cert.Keys

open Idealize.ShloMosaic Idealize.ShloMosaic.TcCoe Idealize.SL.Sem

instance : Subsingleton Cert.Pre_ragged.S_.Idx := ⟨fun a b => funext fun i => i.elim0⟩

/-- A conjunction of two bits is one when both are. -/
theorem and_one (x y : BitVec 1) (h : IntOp.andi x y = 1#1) : x = 1#1 ∧ y = 1#1 := by
  revert h
  revert x y
  decide

/-- Where the precondition holds the ids are in range, in order, and fit. -/
theorem ragged_of_pre (a0 : FVec Ideal Cert.Pre_ragged.S32768x256 .f32) (a1 : FVec Ideal Cert.Pre_ragged.S256x256 .f32) (a2 : FVec Ideal Cert.Pre_ragged.S256 .f32)
    (a3 : FVec Ideal Cert.Pre_ragged.S256x10 .f32) (a4 : FVec Ideal Cert.Pre_ragged.S10 .f32) (a5 : FVec Ideal Cert.Pre_ragged.S256x256 .f32)
    (a6 : FVec Ideal Cert.Pre_ragged.S256 .f32) (a7 : FVec Ideal Cert.Pre_ragged.S256x256 .f32) (a8 : FVec Ideal Cert.Pre_ragged.S256 .f32)
    (ids : IVec Cert.Pre_ragged.S32768 32) (h : Cert.Pre_ragged.fn (F := Ideal) a0 a1 a2 a3 a4 a5 a6 a7 a8 ids = fun _ => 1#1) : Ragged ids := by
  have h0 := congrFun h ix0
  unfold Cert.Pre_ragged.fn at h0
  obtain ⟨h1, hf⟩ := and_one _ _ h0
  obtain ⟨hr, ho⟩ := and_one _ _ h1
  have range : ∀ n, seg ids n < 16 := fun n => by
    have e := and_one _ _ (Host.reduce_andi_all _ _ _ _ _ hr (ix1 n))
    have e1 : IntOp.cmpi .sge (ids (ix1 n)) 0#32 = 1#1 := e.1
    have e2 : IntOp.cmpi .slt (ids (ix1 n)) 16#32 = 1#1 := e.2
    rw [WordCmp.cmpi_sge_zero, StableHlo.Predicate.ofBool_eq_one_iff, decide_eq_true_iff] at e1
    rw [WordCmp.cmpi_slt_of_lt e1 (by decide), StableHlo.Predicate.ofBool_eq_one_iff, decide_eq_true_iff] at e2
    exact e2
  have step : ∀ i j : Fin 32768, i.val + 1 = j.val → seg ids i ≤ seg ids j := fun i j hij => by
    have e := Host.reduce_andi_all _ _ _ _ _ ho (ix1 (⟨i.val, by omega⟩ : Fin 32767))
    have r1 := range i
    have r2 := range j
    unfold seg at r1 r2 ⊢
    have e1 : IntOp.cmpi .sge (ids (ix1 j)) (ids (ix1 i)) = 1#1 := by
      refine Eq.trans ?_ e
      pointwise
      exact congrArg (fun q => IntOp.cmpi .sge (ids (ix1 q)) (ids (ix1 i))) (Fin.ext (by show j.val = 1 + i.val; omega))
    rw [WordCmp.cmpi_sge_of_lt (by omega) (by omega), StableHlo.Predicate.ofBool_eq_one_iff, decide_eq_true_iff] at e1
    exact e1
  refine ⟨range, fun i j hij => ?_, fun i j hij => ?_⟩
  · obtain ⟨k, hk⟩ : ∃ k, i.val + k = j.val := ⟨j.val - i.val, by have := Fin.le_def.1 hij; omega⟩
    induction k generalizing j with
    | zero => rw [show i = j from Fin.ext (by omega)]
    | succ k ih =>
      have hj := j.isLt
      exact (ih (⟨j.val - 1, by omega⟩ : Fin 32768) (Fin.le_def.2 (by show i.val ≤ j.val - 1; omega)) (by show i.val + k = j.val - 1; omega)).trans
        (step _ j (by show j.val - 1 + 1 = j.val; omega))
  · have e := Host.reduce_andi_all _ _ _ _ _ hf (ix1 (⟨i.val, by omega⟩ : Fin 28672))
    have e1 : IntOp.cmpi .ne (ids (ix1 j)) (ids (ix1 i)) = 1#1 := by
      refine Eq.trans ?_ e
      pointwise
      exact congrArg (fun q => IntOp.cmpi .ne (ids (ix1 q)) (ids (ix1 i))) (Fin.ext (by show j.val = 4096 + i.val; omega))
    rw [WordCmp.cmpi_ne_eq_toNat, StableHlo.Predicate.ofBool_eq_one_iff, decide_eq_true_iff] at e1
    exact fun q => e1 q.symm

end Cert.Keys

end
-- ==== Proof.Runs.lean ====
module

public import proofs.«01_k».proof.Defs
public import proofs.«01_k».proof.Proof.Final
public import proofs.«01_k».proof.Proof.Precondition
public import Idealize.ShloMosaic.Lib.Claim

@[expose] public section

set_option maxRecDepth 16384

noncomputable section

/-! The kernel's run ends with the reference's three arrays. -/

namespace Cert.Keys

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The keys both programs end with. -/
def outKeys : FVec Ideal S16x10x256 .f32 := refKeys (refNum (feats m c) (weights m c) (argIds m c)) (refDen (weights m c) (argIds m c))

/-- The mean rows both programs pass to the query heads. -/
def outPooled : FVec Ideal S16x256 .f32 := refPooled (refPadded (feats m c) (refPairs (argIds m c))) (refMask (refPairs (argIds m c)))

/-- On ragged ids the kernel ends with the reference's three arrays. -/
theorem kernel_run (g : Dev nD → PrngReg) (h : ∀ c, Ragged (argIds m c)) :
    θ_run defs (onTc (τ := τ) (main (F := Ideal))) ⟨m, fun _ => 0, g⟩ fun r => ∀ c : Dev nD,
      r.2.mem ((c.tc : Thread nD τ).loc main_v0_0) = outKeys m c
      ∧ r.2.mem ((c.tc : Thread nD τ).loc main_v0_1) = refQuery (outPooled m c) (argWq1 m c) (argBq1 m c)
      ∧ r.2.mem ((c.tc : Thread nD τ).loc main_v0_2) = refQuery (outPooled m c) (argWq2 m c) (argBq2 m c) := by
  refine (θ_run defs _ _).mono (fun r hr c => ⟨?_, ?_, ?_⟩) (run_main m g)
  · exact ((hr c).2 main_v0_0 (by decide +kernel)).trans ((tail_keys m c).trans (keys_eq m c (h c).range))
  · exact ((hr c).1 11).trans ((final_q1 m c).trans (gridQ1_eq m c (h c)))
  · exact ((hr c).1 12).trans ((final_q2 m c).trans (gridQ2_eq m c (h c)))

/-- The reference's run, its results as the named functions of its arguments. -/
theorem reference_run (m' : (ℓ : Loc Cert.ReferenceIdeal.nD Cert.ReferenceIdeal.τ Cert.ReferenceIdeal.sig) → Buf (Elt Ideal) ℓ)
    (g' : Dev Cert.ReferenceIdeal.nD → PrngReg) :
    θ_run Cert.ReferenceIdeal.defs (onTc (τ := Cert.ReferenceIdeal.τ) (Cert.ReferenceIdeal.main (F := Ideal))) ⟨m', fun _ => 0, g'⟩
      fun r => ∀ c : Dev Cert.ReferenceIdeal.nD,
      r.2.mem ((c.tc : Thread Cert.ReferenceIdeal.nD Cert.ReferenceIdeal.τ).loc Cert.ReferenceIdeal.main_v29)
        = refKeys (refNum (memFeats m' c) (refWeights (memFeats m' c) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg9)))
            (refDen (refWeights (memFeats m' c) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg9)))
      ∧ r.2.mem ((c.tc : Thread Cert.ReferenceIdeal.nD Cert.ReferenceIdeal.τ).loc Cert.ReferenceIdeal.main_v97)
        = refQuery (refPooled (refPadded (memFeats m' c) (refPairs (m' ((c.tc : Thread Cert.ReferenceIdeal.nD Cert.ReferenceIdeal.τ).loc Cert.ReferenceIdeal.main_arg9)))) (refMask (refPairs (m' ((c.tc : Thread Cert.ReferenceIdeal.nD Cert.ReferenceIdeal.τ).loc Cert.ReferenceIdeal.main_arg9))))) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v101)
        = refQuery (refPooled (refPadded (memFeats m' c) (refPairs (m' ((c.tc : Thread Cert.ReferenceIdeal.nD Cert.ReferenceIdeal.τ).loc Cert.ReferenceIdeal.main_arg9)))) (refMask (refPairs (m' ((c.tc : Thread Cert.ReferenceIdeal.nD Cert.ReferenceIdeal.τ).loc Cert.ReferenceIdeal.main_arg9))))) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9) :=
  (θ_run _ _ _).mono (fun _ hr c => ⟨(hr c).1, (hr c).2.1.trans (res_q1 m' c), (hr c).2.2.1.trans (res_q2 m' c), (hr c).2.2.2⟩)
    (Cert.ReferenceIdeal.Value.run m' g')

/-- From memories that agree on the arguments, the ids ragged, both programs end with equal results. -/
theorem algebraic : Cert.algebraic_KernelIdeal_ReferenceIdeal_pre_ragged (hKernelIdeal := Cert.KernelIdeal.Gen.facts)
    (hReferenceIdeal := Cert.ReferenceIdeal.Gen.facts) (hPre_ragged := Cert.Pre_ragged.Gen.facts) := by
  intro m g m' g' hpre hagree
  have hrag : ∀ c, Ragged (argIds m c) := fun c => ragged_of_pre _ _ _ _ _ _ _ _ _ _ (hpre c)
  refine ⟨fun c => outKeys m c, fun c => refQuery (outPooled m c) (argWq1 m c) (argBq1 m c), fun c => refQuery (outPooled m c) (argWq2 m c) (argBq2 m c), ?_, ?_⟩
  · exact (θ_run _ _ _).mono (fun r hr c => ⟨(hr.1 c).1, (hr.1 c).2.1, (hr.1 c).2.2, hr.2.1 c⟩)
      (θ_run_and (kernel_run m g hrag) (Cert.KernelIdeal.Gen.frame m g))
  · refine (θ_run _ _ _).mono (fun r hr c => ?_) (reference_run m' g')
    obtain ⟨a0, a1, a2, a3, a4, a5, a6, a7, a8, a9⟩ := hagree c
    obtain ⟨hk, h1, h2, hargs⟩ := hr c
    unfold memFeats at hk h1 h2
    rw [a0, a1, a2, a3, a4, a9] at hk
    rw [a0, a1, a2, a5, a6, a9] at h1
    rw [a0, a1, a2, a7, a8, a9] at h2
    exact ⟨hk, h1, h2, hargs⟩

end Cert.Keys

end
-- ==== Proof.lean ====
/- The certificate's claim, assembled: the frames of the kernel, of its idealization and of the reference, and the equality of the three results
   (Proof/Runs.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_ragged
public import proofs.«01_k».proof.Proof.Gen.ReferenceIdeal
public import proofs.«01_k».proof.Proof.Gen.ReferenceIdeal.Run
public import proofs.«01_k».proof.Proof.Runs
public import Idealize.ShloMosaic.Adequacy
public import Idealize.ShloMosaic.Init

@[expose] public section

noncomputable section

namespace Cert.Proof

open Idealize.ShloMosaic Idealize.SL.Sem Cert.Kernel

/-- The reference runs to the end, its arguments unchanged; it has no semaphore. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0) :=
  (θ_run _ _ _).mono (fun r hr => ⟨fun c => (hr c).2.2.2, Idealize.ShloMosaic.sem_eq_zero_of_no_sems (by decide) r.2⟩) (Cert.ReferenceIdeal.Value.run m g)

/-- The kernel and the reference run to the end with their arguments unchanged, the kernel is its idealization's text, and on ragged ids the two
    end with equal keys and equal query heads. -/
theorem claim : Cert.Claim := ⟨Cert.Kernel.Gen.facts, Cert.KernelIdeal.Gen.facts, Cert.ReferenceIdeal.Gen.facts, Cert.Pre_ragged.Gen.facts,
  fun m g _ => Cert.Kernel.Gen.frame m g, fun m g _ => Cert.KernelIdeal.Gen.frame m g, fun m g _ => Cert.KernelIdeal.Gen.frame m g,
  fun m g _ => reference_frame m g, fun m g _ => reference_frame m g, trivial, Cert.Keys.algebraic⟩

end Cert.Proof

end
